-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x64x64x64 : Shape := ⟨5, ![64, 1, 64, 64, 64]⟩
abbrev S1x1x64x64x64 : Shape := ⟨5, ![1, 1, 64, 64, 64]⟩
abbrev S2x1x64x64x64 : Shape := ⟨5, ![2, 1, 64, 64, 64]⟩
abbrev S2 : Shape := ⟨1, ![2]⟩
abbrev S32x16x128 : Shape := ⟨3, ![32, 16, 128]⟩
abbrev S2x64x64 : Shape := ⟨3, ![2, 64, 64]⟩
abbrev S2x2x64x64 : Shape := ⟨4, ![2, 2, 64, 64]⟩
abbrev S16x128 : Shape := ⟨2, ![16, 128]⟩
abbrev S_ : Shape := ⟨0, ![]⟩
abbrev S1x1x2x64x64 : Shape := ⟨5, ![1, 1, 2, 64, 64]⟩
abbrev S1x1x16 : Shape := ⟨3, ![1, 1, 16]⟩
abbrev S16 : Shape := ⟨1, ![16]⟩
abbrev S2x1x2x64x64 : Shape := ⟨5, ![2, 1, 2, 64, 64]⟩
abbrev S1x1x1x16 : Shape := ⟨4, ![1, 1, 1, 16]⟩
abbrev S1x16 : Shape := ⟨2, ![1, 16]⟩
abbrev S1x16x128 : Shape := ⟨3, ![1, 16, 128]⟩
abbrev S1x2 : Shape := ⟨2, ![1, 2]⟩
abbrev S38x2 : Shape := ⟨2, ![38, 2]⟩
abbrev S38x1x8x64x64 : Shape := ⟨5, ![38, 1, 8, 64, 64]⟩
abbrev S1x1x8x64x64 : Shape := ⟨5, ![1, 1, 8, 64, 64]⟩
abbrev S2x1x8x64x64 : Shape := ⟨5, ![2, 1, 8, 64, 64]⟩
abbrev S38 : Shape := ⟨1, ![38]⟩
abbrev S38x1 : Shape := ⟨2, ![38, 1]⟩
abbrev S64x2 : Shape := ⟨2, ![64, 2]⟩
abbrev S128 : Shape := ⟨1, ![128]⟩
abbrev S1x128 : Shape := ⟨2, ![1, 128]⟩
abbrev S128x16 : Shape := ⟨2, ![128, 16]⟩
abbrev S26x2 : Shape := ⟨2, ![26, 2]⟩

abbrev nBuf : Table → Nat
  | .hbm => 15
  | .local .tc .vmem => 11
  | .local .scVector .vmem => 6
  | _ => 0

abbrev bufTy : (tb : Table) → Fin (nBuf tb) → BufTy
  | .hbm, ⟨0, _⟩ => ⟨S64x1x64x64x64, .f32⟩
  | .hbm, ⟨1, _⟩ => ⟨S1x1x64x64x64, .f32⟩
  | .hbm, ⟨2, _⟩ => ⟨S2x1x64x64x64, .f32⟩
  | .hbm, ⟨3, _⟩ => ⟨S2, .f32⟩
  | .hbm, ⟨4, _⟩ => ⟨S32x16x128, .f32⟩
  | .hbm, ⟨5, _⟩ => ⟨S1x2, .f32⟩
  | .hbm, ⟨6, _⟩ => ⟨S38x2, .f32⟩
  | .hbm, ⟨7, _⟩ => ⟨S1x2, .f32⟩
  | .hbm, ⟨8, _⟩ => ⟨S64x2, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S64x2, .f32⟩
  | .hbm, ⟨13, _⟩ => ⟨S26x2, .f32⟩
  | .hbm, ⟨14, _⟩ => ⟨S64x2, .f32⟩
  | .local .tc .vmem, ⟨0, _⟩ => ⟨S38x1x8x64x64, .f32⟩
  | .local .tc .vmem, ⟨1, _⟩ => ⟨S38x1x8x64x64, .f32⟩
  | .local .tc .vmem, ⟨2, _⟩ => ⟨S1x1x8x64x64, .f32⟩
  | .local .tc .vmem, ⟨3, _⟩ => ⟨S1x1x8x64x64, .f32⟩
  | .local .tc .vmem, ⟨4, _⟩ => ⟨S2x1x8x64x64, .f32⟩
  | .local .tc .vmem, ⟨5, _⟩ => ⟨S2x1x8x64x64, .f32⟩
  | .local .tc .vmem, ⟨6, _⟩ => ⟨S1x2, .f32⟩
  | .local .tc .vmem, ⟨7, _⟩ => ⟨S38x2, .f32⟩
  | .local .tc .vmem, ⟨8, _⟩ => ⟨S32x16x128, .f32⟩
  | .local .tc .vmem, ⟨9, _⟩ => ⟨S1x128, .f32⟩
  | .local .tc .vmem, ⟨10, _⟩ => ⟨S1x128, .f32⟩
  | .local .scVector .vmem, ⟨0, _⟩ => ⟨S2x64x64, .f32⟩
  | .local .scVector .vmem, ⟨1, _⟩ => ⟨S2x64x64, .f32⟩
  | .local .scVector .vmem, ⟨2, _⟩ => ⟨S2x64x64, .f32⟩
  | .local .scVector .vmem, ⟨3, _⟩ => ⟨S2x2x64x64, .f32⟩
  | .local .scVector .vmem, ⟨4, _⟩ => ⟨S2x2x64x64, .f32⟩
  | .local .scVector .vmem, ⟨5, _⟩ => ⟨S16x128, .f32⟩
  | _, _ => ⟨S64x1x64x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem1_0 : DmaSem sig := 15
abbrev cc2_sem2_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 5 → Nat :=
  let c0_i32 : BitVec 32 := 0#32
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_334_r0 : BitVec 32 := 0#32
  let c0_i32_335_r0 : BitVec 32 := 0#32
  ![0, 0, v2.toNat, 0, 0]
def k0_off2 (i : grid0.Coords) : Fin 5 → Nat :=
  let c0_i32_2 : BitVec 32 := 0#32
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_334_r1 : BitVec 32 := 0#32
  let c0_i32_335_r1 : BitVec 32 := 0#32
  ![0, 0, v2.toNat, 0, 0]
def k0_off3 (i : grid0.Coords) : Fin 5 → Nat :=
  let c1_i32 : BitVec 32 := 1#32
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_334_r2 : BitVec 32 := 0#32
  let c0_i32_335_r2 : BitVec 32 := 0#32
  ![1, 0, v2.toNat, 0, 0]
@[reducible] def k0_t1_loop : Scf.Loop 32 :=
  let c0_i32_6 : BitVec 32 := 0#32
  let c128_i32 : BitVec 32 := 128#32
  let v3 : BitVec 32 := Scalar.addi c0_i32_6 c128_i32
  let c1_i32_7 : BitVec 32 := 1#32
  ⟨c0_i32_6, v3, c1_i32_7⟩
def k0_off4 (k0_t1 : Fin k0_t1_loop.trips) : Fin 3 → Nat :=
  let c0_i32_6 : BitVec 32 := 0#32
  let c1_i32_7 : BitVec 32 := 1#32
  let arg14 : BitVec 32 := Scf.iv c0_i32_6 c1_i32_7 k0_t1
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off5 (k0_t1 : Fin k0_t1_loop.trips) : Fin 3 → Nat :=
  let c0_i32_6 : BitVec 32 := 0#32
  let c1_i32_7 : BitVec 32 := 1#32
  let arg14 : BitVec 32 := Scf.iv c0_i32_6 c1_i32_7 k0_t1
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v398 : Index := Scalar.indexCast v372
  let c64_i32_340 : BitVec 32 := 64#32
  let v373 : BitVec 32 := Scalar.remsi arg14 c64_i32_340
  let v399 : Index := Scalar.indexCast v373
  let c16_346 : Index := 16#32
  ![v398.toNat, v399.toNat, 16]
def k0_off6 (k0_t1 : Fin k0_t1_loop.trips) : Fin 3 → Nat :=
  let c0_i32_6 : BitVec 32 := 0#32
  let c1_i32_7 : BitVec 32 := 1#32
  let arg14 : BitVec 32 := Scf.iv c0_i32_6 c1_i32_7 k0_t1
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v422 : Index := Scalar.indexCast v372
  let c64_i32_340 : BitVec 32 := 64#32
  let v373 : BitVec 32 := Scalar.remsi arg14 c64_i32_340
  let v423 : Index := Scalar.indexCast v373
  let c32_351 : Index := 32#32
  ![v422.toNat, v423.toNat, 32]
def k0_off7 (k0_t1 : Fin k0_t1_loop.trips) : Fin 3 → Nat :=
  let c0_i32_6 : BitVec 32 := 0#32
  let c1_i32_7 : BitVec 32 := 1#32
  let arg14 : BitVec 32 := Scf.iv c0_i32_6 c1_i32_7 k0_t1
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c48_356 : Index := 48#32
  ![v446.toNat, v447.toNat, 48]
def k0_off8 (i : grid0.Coords) : Fin 5 → Nat :=
  let c38_i32 : BitVec 32 := 38#32
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_10 : BitVec 32 := 0#32
  let c0_i32_11 : BitVec 32 := 0#32
  ![38, 0, v2.toNat, 0, 0]
def k0_off9 (i : grid0.Coords) : Fin 5 → Nat :=
  let c40_i32 : BitVec 32 := 40#32
  let c0_i32_22 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_23 : BitVec 32 := 0#32
  let c0_i32_24 : BitVec 32 := 0#32
  ![40, 0, v2.toNat, 0, 0]
@[reducible] def k0_t2_loop : Scf.Loop 32 :=
  let c0_i32_28 : BitVec 32 := 0#32
  let c128_i32_29 : BitVec 32 := 128#32
  let v18 : BitVec 32 := Scalar.addi c0_i32_28 c128_i32_29
  let c1_i32_30 : BitVec 32 := 1#32
  ⟨c0_i32_28, v18, c1_i32_30⟩
def k0_off10 (k0_t2 : Fin k0_t2_loop.trips) : Fin 3 → Nat :=
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off11 (k0_t2 : Fin k0_t2_loop.trips) : Fin 4 → Nat :=
  let c0_i32_343 : BitVec 32 := 0#32
  let v382 : Index := Scalar.indexCast c0_i32_343
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off12 (k0_t2 : Fin k0_t2_loop.trips) : Fin 4 → Nat :=
  let c1_i32_347 : BitVec 32 := 1#32
  let v396 : Index := Scalar.indexCast c1_i32_347
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off13 (k0_t2 : Fin k0_t2_loop.trips) : Fin 3 → Nat :=
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off14 (k0_t2 : Fin k0_t2_loop.trips) : Fin 4 → Nat :=
  let c0_i32_353 : BitVec 32 := 0#32
  let v418 : Index := Scalar.indexCast c0_i32_353
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off15 (k0_t2 : Fin k0_t2_loop.trips) : Fin 4 → Nat :=
  let c1_i32_357 : BitVec 32 := 1#32
  let v432 : Index := Scalar.indexCast c1_i32_357
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off16 (k0_t2 : Fin k0_t2_loop.trips) : Fin 3 → Nat :=
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off17 (k0_t2 : Fin k0_t2_loop.trips) : Fin 4 → Nat :=
  let c0_i32_363 : BitVec 32 := 0#32
  let v454 : Index := Scalar.indexCast c0_i32_363
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off18 (k0_t2 : Fin k0_t2_loop.trips) : Fin 4 → Nat :=
  let c1_i32_367 : BitVec 32 := 1#32
  let v468 : Index := Scalar.indexCast c1_i32_367
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off19 (k0_t2 : Fin k0_t2_loop.trips) : Fin 3 → Nat :=
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off20 (k0_t2 : Fin k0_t2_loop.trips) : Fin 4 → Nat :=
  let c0_i32_373 : BitVec 32 := 0#32
  let v490 : Index := Scalar.indexCast c0_i32_373
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off21 (k0_t2 : Fin k0_t2_loop.trips) : Fin 4 → Nat :=
  let c1_i32_377 : BitVec 32 := 1#32
  let v504 : Index := Scalar.indexCast c1_i32_377
  let c0_i32_28 : BitVec 32 := 0#32
  let c1_i32_30 : BitVec 32 := 1#32
  let arg14 : BitVec 32 := Scf.iv c0_i32_28 c1_i32_30 k0_t2
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off22 (i : grid0.Coords) : Fin 5 → Nat :=
  let c42_i32 : BitVec 32 := 42#32
  let c0_i32_43 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_44 : BitVec 32 := 0#32
  let c0_i32_45 : BitVec 32 := 0#32
  ![42, 0, v2.toNat, 0, 0]
@[reducible] def k0_t3_loop : Scf.Loop 32 :=
  let c0_i32_50 : BitVec 32 := 0#32
  let c128_i32_51 : BitVec 32 := 128#32
  let v45 : BitVec 32 := Scalar.addi c0_i32_50 c128_i32_51
  let c1_i32_52 : BitVec 32 := 1#32
  ⟨c0_i32_50, v45, c1_i32_52⟩
def k0_off23 (k0_t3 : Fin k0_t3_loop.trips) : Fin 3 → Nat :=
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off24 (k0_t3 : Fin k0_t3_loop.trips) : Fin 4 → Nat :=
  let c0_i32_343 : BitVec 32 := 0#32
  let v382 : Index := Scalar.indexCast c0_i32_343
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off25 (k0_t3 : Fin k0_t3_loop.trips) : Fin 4 → Nat :=
  let c1_i32_347 : BitVec 32 := 1#32
  let v396 : Index := Scalar.indexCast c1_i32_347
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off26 (k0_t3 : Fin k0_t3_loop.trips) : Fin 3 → Nat :=
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off27 (k0_t3 : Fin k0_t3_loop.trips) : Fin 4 → Nat :=
  let c0_i32_353 : BitVec 32 := 0#32
  let v418 : Index := Scalar.indexCast c0_i32_353
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off28 (k0_t3 : Fin k0_t3_loop.trips) : Fin 4 → Nat :=
  let c1_i32_357 : BitVec 32 := 1#32
  let v432 : Index := Scalar.indexCast c1_i32_357
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off29 (k0_t3 : Fin k0_t3_loop.trips) : Fin 3 → Nat :=
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off30 (k0_t3 : Fin k0_t3_loop.trips) : Fin 4 → Nat :=
  let c0_i32_363 : BitVec 32 := 0#32
  let v454 : Index := Scalar.indexCast c0_i32_363
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off31 (k0_t3 : Fin k0_t3_loop.trips) : Fin 4 → Nat :=
  let c1_i32_367 : BitVec 32 := 1#32
  let v468 : Index := Scalar.indexCast c1_i32_367
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off32 (k0_t3 : Fin k0_t3_loop.trips) : Fin 3 → Nat :=
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off33 (k0_t3 : Fin k0_t3_loop.trips) : Fin 4 → Nat :=
  let c0_i32_373 : BitVec 32 := 0#32
  let v490 : Index := Scalar.indexCast c0_i32_373
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off34 (k0_t3 : Fin k0_t3_loop.trips) : Fin 4 → Nat :=
  let c1_i32_377 : BitVec 32 := 1#32
  let v504 : Index := Scalar.indexCast c1_i32_377
  let c0_i32_50 : BitVec 32 := 0#32
  let c1_i32_52 : BitVec 32 := 1#32
  let arg14 : BitVec 32 := Scf.iv c0_i32_50 c1_i32_52 k0_t3
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off35 (i : grid0.Coords) : Fin 5 → Nat :=
  let c44_i32 : BitVec 32 := 44#32
  let c0_i32_65 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_66 : BitVec 32 := 0#32
  let c0_i32_67 : BitVec 32 := 0#32
  ![44, 0, v2.toNat, 0, 0]
@[reducible] def k0_t4_loop : Scf.Loop 32 :=
  let c0_i32_72 : BitVec 32 := 0#32
  let c128_i32_73 : BitVec 32 := 128#32
  let v72 : BitVec 32 := Scalar.addi c0_i32_72 c128_i32_73
  let c1_i32_74 : BitVec 32 := 1#32
  ⟨c0_i32_72, v72, c1_i32_74⟩
def k0_off36 (k0_t4 : Fin k0_t4_loop.trips) : Fin 3 → Nat :=
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off37 (k0_t4 : Fin k0_t4_loop.trips) : Fin 4 → Nat :=
  let c0_i32_343 : BitVec 32 := 0#32
  let v382 : Index := Scalar.indexCast c0_i32_343
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off38 (k0_t4 : Fin k0_t4_loop.trips) : Fin 4 → Nat :=
  let c1_i32_347 : BitVec 32 := 1#32
  let v396 : Index := Scalar.indexCast c1_i32_347
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off39 (k0_t4 : Fin k0_t4_loop.trips) : Fin 3 → Nat :=
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off40 (k0_t4 : Fin k0_t4_loop.trips) : Fin 4 → Nat :=
  let c0_i32_353 : BitVec 32 := 0#32
  let v418 : Index := Scalar.indexCast c0_i32_353
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off41 (k0_t4 : Fin k0_t4_loop.trips) : Fin 4 → Nat :=
  let c1_i32_357 : BitVec 32 := 1#32
  let v432 : Index := Scalar.indexCast c1_i32_357
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off42 (k0_t4 : Fin k0_t4_loop.trips) : Fin 3 → Nat :=
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off43 (k0_t4 : Fin k0_t4_loop.trips) : Fin 4 → Nat :=
  let c0_i32_363 : BitVec 32 := 0#32
  let v454 : Index := Scalar.indexCast c0_i32_363
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off44 (k0_t4 : Fin k0_t4_loop.trips) : Fin 4 → Nat :=
  let c1_i32_367 : BitVec 32 := 1#32
  let v468 : Index := Scalar.indexCast c1_i32_367
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off45 (k0_t4 : Fin k0_t4_loop.trips) : Fin 3 → Nat :=
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off46 (k0_t4 : Fin k0_t4_loop.trips) : Fin 4 → Nat :=
  let c0_i32_373 : BitVec 32 := 0#32
  let v490 : Index := Scalar.indexCast c0_i32_373
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off47 (k0_t4 : Fin k0_t4_loop.trips) : Fin 4 → Nat :=
  let c1_i32_377 : BitVec 32 := 1#32
  let v504 : Index := Scalar.indexCast c1_i32_377
  let c0_i32_72 : BitVec 32 := 0#32
  let c1_i32_74 : BitVec 32 := 1#32
  let arg14 : BitVec 32 := Scf.iv c0_i32_72 c1_i32_74 k0_t4
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off48 (i : grid0.Coords) : Fin 5 → Nat :=
  let c46_i32 : BitVec 32 := 46#32
  let c0_i32_91 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_92 : BitVec 32 := 0#32
  let c0_i32_93 : BitVec 32 := 0#32
  ![46, 0, v2.toNat, 0, 0]
@[reducible] def k0_t5_loop : Scf.Loop 32 :=
  let c0_i32_98 : BitVec 32 := 0#32
  let c128_i32_99 : BitVec 32 := 128#32
  let v99 : BitVec 32 := Scalar.addi c0_i32_98 c128_i32_99
  let c1_i32_100 : BitVec 32 := 1#32
  ⟨c0_i32_98, v99, c1_i32_100⟩
def k0_off49 (k0_t5 : Fin k0_t5_loop.trips) : Fin 3 → Nat :=
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off50 (k0_t5 : Fin k0_t5_loop.trips) : Fin 4 → Nat :=
  let c0_i32_343 : BitVec 32 := 0#32
  let v382 : Index := Scalar.indexCast c0_i32_343
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off51 (k0_t5 : Fin k0_t5_loop.trips) : Fin 4 → Nat :=
  let c1_i32_347 : BitVec 32 := 1#32
  let v396 : Index := Scalar.indexCast c1_i32_347
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off52 (k0_t5 : Fin k0_t5_loop.trips) : Fin 3 → Nat :=
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off53 (k0_t5 : Fin k0_t5_loop.trips) : Fin 4 → Nat :=
  let c0_i32_353 : BitVec 32 := 0#32
  let v418 : Index := Scalar.indexCast c0_i32_353
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off54 (k0_t5 : Fin k0_t5_loop.trips) : Fin 4 → Nat :=
  let c1_i32_357 : BitVec 32 := 1#32
  let v432 : Index := Scalar.indexCast c1_i32_357
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off55 (k0_t5 : Fin k0_t5_loop.trips) : Fin 3 → Nat :=
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off56 (k0_t5 : Fin k0_t5_loop.trips) : Fin 4 → Nat :=
  let c0_i32_363 : BitVec 32 := 0#32
  let v454 : Index := Scalar.indexCast c0_i32_363
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off57 (k0_t5 : Fin k0_t5_loop.trips) : Fin 4 → Nat :=
  let c1_i32_367 : BitVec 32 := 1#32
  let v468 : Index := Scalar.indexCast c1_i32_367
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off58 (k0_t5 : Fin k0_t5_loop.trips) : Fin 3 → Nat :=
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off59 (k0_t5 : Fin k0_t5_loop.trips) : Fin 4 → Nat :=
  let c0_i32_373 : BitVec 32 := 0#32
  let v490 : Index := Scalar.indexCast c0_i32_373
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off60 (k0_t5 : Fin k0_t5_loop.trips) : Fin 4 → Nat :=
  let c1_i32_377 : BitVec 32 := 1#32
  let v504 : Index := Scalar.indexCast c1_i32_377
  let c0_i32_98 : BitVec 32 := 0#32
  let c1_i32_100 : BitVec 32 := 1#32
  let arg14 : BitVec 32 := Scf.iv c0_i32_98 c1_i32_100 k0_t5
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off61 (i : grid0.Coords) : Fin 5 → Nat :=
  let c48_i32 : BitVec 32 := 48#32
  let c0_i32_117 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_118 : BitVec 32 := 0#32
  let c0_i32_119 : BitVec 32 := 0#32
  ![48, 0, v2.toNat, 0, 0]
@[reducible] def k0_t6_loop : Scf.Loop 32 :=
  let c0_i32_124 : BitVec 32 := 0#32
  let c128_i32_125 : BitVec 32 := 128#32
  let v126 : BitVec 32 := Scalar.addi c0_i32_124 c128_i32_125
  let c1_i32_126 : BitVec 32 := 1#32
  ⟨c0_i32_124, v126, c1_i32_126⟩
def k0_off62 (k0_t6 : Fin k0_t6_loop.trips) : Fin 3 → Nat :=
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off63 (k0_t6 : Fin k0_t6_loop.trips) : Fin 4 → Nat :=
  let c0_i32_343 : BitVec 32 := 0#32
  let v382 : Index := Scalar.indexCast c0_i32_343
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off64 (k0_t6 : Fin k0_t6_loop.trips) : Fin 4 → Nat :=
  let c1_i32_347 : BitVec 32 := 1#32
  let v396 : Index := Scalar.indexCast c1_i32_347
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off65 (k0_t6 : Fin k0_t6_loop.trips) : Fin 3 → Nat :=
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off66 (k0_t6 : Fin k0_t6_loop.trips) : Fin 4 → Nat :=
  let c0_i32_353 : BitVec 32 := 0#32
  let v418 : Index := Scalar.indexCast c0_i32_353
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off67 (k0_t6 : Fin k0_t6_loop.trips) : Fin 4 → Nat :=
  let c1_i32_357 : BitVec 32 := 1#32
  let v432 : Index := Scalar.indexCast c1_i32_357
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off68 (k0_t6 : Fin k0_t6_loop.trips) : Fin 3 → Nat :=
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off69 (k0_t6 : Fin k0_t6_loop.trips) : Fin 4 → Nat :=
  let c0_i32_363 : BitVec 32 := 0#32
  let v454 : Index := Scalar.indexCast c0_i32_363
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off70 (k0_t6 : Fin k0_t6_loop.trips) : Fin 4 → Nat :=
  let c1_i32_367 : BitVec 32 := 1#32
  let v468 : Index := Scalar.indexCast c1_i32_367
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off71 (k0_t6 : Fin k0_t6_loop.trips) : Fin 3 → Nat :=
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off72 (k0_t6 : Fin k0_t6_loop.trips) : Fin 4 → Nat :=
  let c0_i32_373 : BitVec 32 := 0#32
  let v490 : Index := Scalar.indexCast c0_i32_373
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off73 (k0_t6 : Fin k0_t6_loop.trips) : Fin 4 → Nat :=
  let c1_i32_377 : BitVec 32 := 1#32
  let v504 : Index := Scalar.indexCast c1_i32_377
  let c0_i32_124 : BitVec 32 := 0#32
  let c1_i32_126 : BitVec 32 := 1#32
  let arg14 : BitVec 32 := Scf.iv c0_i32_124 c1_i32_126 k0_t6
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off74 (i : grid0.Coords) : Fin 5 → Nat :=
  let c50_i32 : BitVec 32 := 50#32
  let c0_i32_143 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_144 : BitVec 32 := 0#32
  let c0_i32_145 : BitVec 32 := 0#32
  ![50, 0, v2.toNat, 0, 0]
@[reducible] def k0_t7_loop : Scf.Loop 32 :=
  let c0_i32_150 : BitVec 32 := 0#32
  let c128_i32_151 : BitVec 32 := 128#32
  let v153 : BitVec 32 := Scalar.addi c0_i32_150 c128_i32_151
  let c1_i32_152 : BitVec 32 := 1#32
  ⟨c0_i32_150, v153, c1_i32_152⟩
def k0_off75 (k0_t7 : Fin k0_t7_loop.trips) : Fin 3 → Nat :=
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off76 (k0_t7 : Fin k0_t7_loop.trips) : Fin 4 → Nat :=
  let c0_i32_343 : BitVec 32 := 0#32
  let v382 : Index := Scalar.indexCast c0_i32_343
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off77 (k0_t7 : Fin k0_t7_loop.trips) : Fin 4 → Nat :=
  let c1_i32_347 : BitVec 32 := 1#32
  let v396 : Index := Scalar.indexCast c1_i32_347
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off78 (k0_t7 : Fin k0_t7_loop.trips) : Fin 3 → Nat :=
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off79 (k0_t7 : Fin k0_t7_loop.trips) : Fin 4 → Nat :=
  let c0_i32_353 : BitVec 32 := 0#32
  let v418 : Index := Scalar.indexCast c0_i32_353
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off80 (k0_t7 : Fin k0_t7_loop.trips) : Fin 4 → Nat :=
  let c1_i32_357 : BitVec 32 := 1#32
  let v432 : Index := Scalar.indexCast c1_i32_357
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off81 (k0_t7 : Fin k0_t7_loop.trips) : Fin 3 → Nat :=
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off82 (k0_t7 : Fin k0_t7_loop.trips) : Fin 4 → Nat :=
  let c0_i32_363 : BitVec 32 := 0#32
  let v454 : Index := Scalar.indexCast c0_i32_363
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off83 (k0_t7 : Fin k0_t7_loop.trips) : Fin 4 → Nat :=
  let c1_i32_367 : BitVec 32 := 1#32
  let v468 : Index := Scalar.indexCast c1_i32_367
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off84 (k0_t7 : Fin k0_t7_loop.trips) : Fin 3 → Nat :=
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off85 (k0_t7 : Fin k0_t7_loop.trips) : Fin 4 → Nat :=
  let c0_i32_373 : BitVec 32 := 0#32
  let v490 : Index := Scalar.indexCast c0_i32_373
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off86 (k0_t7 : Fin k0_t7_loop.trips) : Fin 4 → Nat :=
  let c1_i32_377 : BitVec 32 := 1#32
  let v504 : Index := Scalar.indexCast c1_i32_377
  let c0_i32_150 : BitVec 32 := 0#32
  let c1_i32_152 : BitVec 32 := 1#32
  let arg14 : BitVec 32 := Scf.iv c0_i32_150 c1_i32_152 k0_t7
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off87 (i : grid0.Coords) : Fin 5 → Nat :=
  let c52_i32 : BitVec 32 := 52#32
  let c0_i32_169 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_170 : BitVec 32 := 0#32
  let c0_i32_171 : BitVec 32 := 0#32
  ![52, 0, v2.toNat, 0, 0]
@[reducible] def k0_t8_loop : Scf.Loop 32 :=
  let c0_i32_176 : BitVec 32 := 0#32
  let c128_i32_177 : BitVec 32 := 128#32
  let v180 : BitVec 32 := Scalar.addi c0_i32_176 c128_i32_177
  let c1_i32_178 : BitVec 32 := 1#32
  ⟨c0_i32_176, v180, c1_i32_178⟩
def k0_off88 (k0_t8 : Fin k0_t8_loop.trips) : Fin 3 → Nat :=
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off89 (k0_t8 : Fin k0_t8_loop.trips) : Fin 4 → Nat :=
  let c0_i32_343 : BitVec 32 := 0#32
  let v382 : Index := Scalar.indexCast c0_i32_343
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off90 (k0_t8 : Fin k0_t8_loop.trips) : Fin 4 → Nat :=
  let c1_i32_347 : BitVec 32 := 1#32
  let v396 : Index := Scalar.indexCast c1_i32_347
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off91 (k0_t8 : Fin k0_t8_loop.trips) : Fin 3 → Nat :=
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off92 (k0_t8 : Fin k0_t8_loop.trips) : Fin 4 → Nat :=
  let c0_i32_353 : BitVec 32 := 0#32
  let v418 : Index := Scalar.indexCast c0_i32_353
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off93 (k0_t8 : Fin k0_t8_loop.trips) : Fin 4 → Nat :=
  let c1_i32_357 : BitVec 32 := 1#32
  let v432 : Index := Scalar.indexCast c1_i32_357
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off94 (k0_t8 : Fin k0_t8_loop.trips) : Fin 3 → Nat :=
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off95 (k0_t8 : Fin k0_t8_loop.trips) : Fin 4 → Nat :=
  let c0_i32_363 : BitVec 32 := 0#32
  let v454 : Index := Scalar.indexCast c0_i32_363
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off96 (k0_t8 : Fin k0_t8_loop.trips) : Fin 4 → Nat :=
  let c1_i32_367 : BitVec 32 := 1#32
  let v468 : Index := Scalar.indexCast c1_i32_367
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off97 (k0_t8 : Fin k0_t8_loop.trips) : Fin 3 → Nat :=
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off98 (k0_t8 : Fin k0_t8_loop.trips) : Fin 4 → Nat :=
  let c0_i32_373 : BitVec 32 := 0#32
  let v490 : Index := Scalar.indexCast c0_i32_373
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off99 (k0_t8 : Fin k0_t8_loop.trips) : Fin 4 → Nat :=
  let c1_i32_377 : BitVec 32 := 1#32
  let v504 : Index := Scalar.indexCast c1_i32_377
  let c0_i32_176 : BitVec 32 := 0#32
  let c1_i32_178 : BitVec 32 := 1#32
  let arg14 : BitVec 32 := Scf.iv c0_i32_176 c1_i32_178 k0_t8
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off100 (i : grid0.Coords) : Fin 5 → Nat :=
  let c54_i32 : BitVec 32 := 54#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_195 : BitVec 32 := 0#32
  let c0_i32_196 : BitVec 32 := 0#32
  ![54, 0, v2.toNat, 0, 0]
@[reducible] def k0_t9_loop : Scf.Loop 32 :=
  let c0_i32_201 : BitVec 32 := 0#32
  let c128_i32_202 : BitVec 32 := 128#32
  let v207 : BitVec 32 := Scalar.addi c0_i32_201 c128_i32_202
  let c1_i32_203 : BitVec 32 := 1#32
  ⟨c0_i32_201, v207, c1_i32_203⟩
def k0_off101 (k0_t9 : Fin k0_t9_loop.trips) : Fin 3 → Nat :=
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off102 (k0_t9 : Fin k0_t9_loop.trips) : Fin 4 → Nat :=
  let c0_i32_343 : BitVec 32 := 0#32
  let v382 : Index := Scalar.indexCast c0_i32_343
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off103 (k0_t9 : Fin k0_t9_loop.trips) : Fin 4 → Nat :=
  let c1_i32_347 : BitVec 32 := 1#32
  let v396 : Index := Scalar.indexCast c1_i32_347
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off104 (k0_t9 : Fin k0_t9_loop.trips) : Fin 3 → Nat :=
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off105 (k0_t9 : Fin k0_t9_loop.trips) : Fin 4 → Nat :=
  let c0_i32_353 : BitVec 32 := 0#32
  let v418 : Index := Scalar.indexCast c0_i32_353
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off106 (k0_t9 : Fin k0_t9_loop.trips) : Fin 4 → Nat :=
  let c1_i32_357 : BitVec 32 := 1#32
  let v432 : Index := Scalar.indexCast c1_i32_357
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off107 (k0_t9 : Fin k0_t9_loop.trips) : Fin 3 → Nat :=
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off108 (k0_t9 : Fin k0_t9_loop.trips) : Fin 4 → Nat :=
  let c0_i32_363 : BitVec 32 := 0#32
  let v454 : Index := Scalar.indexCast c0_i32_363
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off109 (k0_t9 : Fin k0_t9_loop.trips) : Fin 4 → Nat :=
  let c1_i32_367 : BitVec 32 := 1#32
  let v468 : Index := Scalar.indexCast c1_i32_367
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off110 (k0_t9 : Fin k0_t9_loop.trips) : Fin 3 → Nat :=
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off111 (k0_t9 : Fin k0_t9_loop.trips) : Fin 4 → Nat :=
  let c0_i32_373 : BitVec 32 := 0#32
  let v490 : Index := Scalar.indexCast c0_i32_373
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off112 (k0_t9 : Fin k0_t9_loop.trips) : Fin 4 → Nat :=
  let c1_i32_377 : BitVec 32 := 1#32
  let v504 : Index := Scalar.indexCast c1_i32_377
  let c0_i32_201 : BitVec 32 := 0#32
  let c1_i32_203 : BitVec 32 := 1#32
  let arg14 : BitVec 32 := Scf.iv c0_i32_201 c1_i32_203 k0_t9
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off113 (i : grid0.Coords) : Fin 5 → Nat :=
  let c56_i32 : BitVec 32 := 56#32
  let c0_i32_220 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_221 : BitVec 32 := 0#32
  let c0_i32_222 : BitVec 32 := 0#32
  ![56, 0, v2.toNat, 0, 0]
@[reducible] def k0_t10_loop : Scf.Loop 32 :=
  let c0_i32_227 : BitVec 32 := 0#32
  let c128_i32_228 : BitVec 32 := 128#32
  let v234 : BitVec 32 := Scalar.addi c0_i32_227 c128_i32_228
  let c1_i32_229 : BitVec 32 := 1#32
  ⟨c0_i32_227, v234, c1_i32_229⟩
def k0_off114 (k0_t10 : Fin k0_t10_loop.trips) : Fin 3 → Nat :=
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off115 (k0_t10 : Fin k0_t10_loop.trips) : Fin 4 → Nat :=
  let c0_i32_343 : BitVec 32 := 0#32
  let v382 : Index := Scalar.indexCast c0_i32_343
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off116 (k0_t10 : Fin k0_t10_loop.trips) : Fin 4 → Nat :=
  let c1_i32_347 : BitVec 32 := 1#32
  let v396 : Index := Scalar.indexCast c1_i32_347
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off117 (k0_t10 : Fin k0_t10_loop.trips) : Fin 3 → Nat :=
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off118 (k0_t10 : Fin k0_t10_loop.trips) : Fin 4 → Nat :=
  let c0_i32_353 : BitVec 32 := 0#32
  let v418 : Index := Scalar.indexCast c0_i32_353
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off119 (k0_t10 : Fin k0_t10_loop.trips) : Fin 4 → Nat :=
  let c1_i32_357 : BitVec 32 := 1#32
  let v432 : Index := Scalar.indexCast c1_i32_357
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off120 (k0_t10 : Fin k0_t10_loop.trips) : Fin 3 → Nat :=
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off121 (k0_t10 : Fin k0_t10_loop.trips) : Fin 4 → Nat :=
  let c0_i32_363 : BitVec 32 := 0#32
  let v454 : Index := Scalar.indexCast c0_i32_363
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off122 (k0_t10 : Fin k0_t10_loop.trips) : Fin 4 → Nat :=
  let c1_i32_367 : BitVec 32 := 1#32
  let v468 : Index := Scalar.indexCast c1_i32_367
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off123 (k0_t10 : Fin k0_t10_loop.trips) : Fin 3 → Nat :=
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off124 (k0_t10 : Fin k0_t10_loop.trips) : Fin 4 → Nat :=
  let c0_i32_373 : BitVec 32 := 0#32
  let v490 : Index := Scalar.indexCast c0_i32_373
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off125 (k0_t10 : Fin k0_t10_loop.trips) : Fin 4 → Nat :=
  let c1_i32_377 : BitVec 32 := 1#32
  let v504 : Index := Scalar.indexCast c1_i32_377
  let c0_i32_227 : BitVec 32 := 0#32
  let c1_i32_229 : BitVec 32 := 1#32
  let arg14 : BitVec 32 := Scf.iv c0_i32_227 c1_i32_229 k0_t10
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off126 (i : grid0.Coords) : Fin 5 → Nat :=
  let c58_i32 : BitVec 32 := 58#32
  let c0_i32_245 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_246 : BitVec 32 := 0#32
  let c0_i32_247 : BitVec 32 := 0#32
  ![58, 0, v2.toNat, 0, 0]
@[reducible] def k0_t11_loop : Scf.Loop 32 :=
  let c0_i32_252 : BitVec 32 := 0#32
  let c128_i32_253 : BitVec 32 := 128#32
  let v261 : BitVec 32 := Scalar.addi c0_i32_252 c128_i32_253
  let c1_i32_254 : BitVec 32 := 1#32
  ⟨c0_i32_252, v261, c1_i32_254⟩
def k0_off127 (k0_t11 : Fin k0_t11_loop.trips) : Fin 3 → Nat :=
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off128 (k0_t11 : Fin k0_t11_loop.trips) : Fin 4 → Nat :=
  let c0_i32_343 : BitVec 32 := 0#32
  let v382 : Index := Scalar.indexCast c0_i32_343
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off129 (k0_t11 : Fin k0_t11_loop.trips) : Fin 4 → Nat :=
  let c1_i32_347 : BitVec 32 := 1#32
  let v396 : Index := Scalar.indexCast c1_i32_347
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off130 (k0_t11 : Fin k0_t11_loop.trips) : Fin 3 → Nat :=
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off131 (k0_t11 : Fin k0_t11_loop.trips) : Fin 4 → Nat :=
  let c0_i32_353 : BitVec 32 := 0#32
  let v418 : Index := Scalar.indexCast c0_i32_353
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off132 (k0_t11 : Fin k0_t11_loop.trips) : Fin 4 → Nat :=
  let c1_i32_357 : BitVec 32 := 1#32
  let v432 : Index := Scalar.indexCast c1_i32_357
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off133 (k0_t11 : Fin k0_t11_loop.trips) : Fin 3 → Nat :=
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off134 (k0_t11 : Fin k0_t11_loop.trips) : Fin 4 → Nat :=
  let c0_i32_363 : BitVec 32 := 0#32
  let v454 : Index := Scalar.indexCast c0_i32_363
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off135 (k0_t11 : Fin k0_t11_loop.trips) : Fin 4 → Nat :=
  let c1_i32_367 : BitVec 32 := 1#32
  let v468 : Index := Scalar.indexCast c1_i32_367
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off136 (k0_t11 : Fin k0_t11_loop.trips) : Fin 3 → Nat :=
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off137 (k0_t11 : Fin k0_t11_loop.trips) : Fin 4 → Nat :=
  let c0_i32_373 : BitVec 32 := 0#32
  let v490 : Index := Scalar.indexCast c0_i32_373
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off138 (k0_t11 : Fin k0_t11_loop.trips) : Fin 4 → Nat :=
  let c1_i32_377 : BitVec 32 := 1#32
  let v504 : Index := Scalar.indexCast c1_i32_377
  let c0_i32_252 : BitVec 32 := 0#32
  let c1_i32_254 : BitVec 32 := 1#32
  let arg14 : BitVec 32 := Scf.iv c0_i32_252 c1_i32_254 k0_t11
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off139 (i : grid0.Coords) : Fin 5 → Nat :=
  let c60_i32 : BitVec 32 := 60#32
  let c0_i32_271 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_272 : BitVec 32 := 0#32
  let c0_i32_273 : BitVec 32 := 0#32
  ![60, 0, v2.toNat, 0, 0]
@[reducible] def k0_t12_loop : Scf.Loop 32 :=
  let c0_i32_278 : BitVec 32 := 0#32
  let c128_i32_279 : BitVec 32 := 128#32
  let v288 : BitVec 32 := Scalar.addi c0_i32_278 c128_i32_279
  let c1_i32_280 : BitVec 32 := 1#32
  ⟨c0_i32_278, v288, c1_i32_280⟩
def k0_off140 (k0_t12 : Fin k0_t12_loop.trips) : Fin 3 → Nat :=
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off141 (k0_t12 : Fin k0_t12_loop.trips) : Fin 4 → Nat :=
  let c0_i32_343 : BitVec 32 := 0#32
  let v382 : Index := Scalar.indexCast c0_i32_343
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off142 (k0_t12 : Fin k0_t12_loop.trips) : Fin 4 → Nat :=
  let c1_i32_347 : BitVec 32 := 1#32
  let v396 : Index := Scalar.indexCast c1_i32_347
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off143 (k0_t12 : Fin k0_t12_loop.trips) : Fin 3 → Nat :=
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off144 (k0_t12 : Fin k0_t12_loop.trips) : Fin 4 → Nat :=
  let c0_i32_353 : BitVec 32 := 0#32
  let v418 : Index := Scalar.indexCast c0_i32_353
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off145 (k0_t12 : Fin k0_t12_loop.trips) : Fin 4 → Nat :=
  let c1_i32_357 : BitVec 32 := 1#32
  let v432 : Index := Scalar.indexCast c1_i32_357
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off146 (k0_t12 : Fin k0_t12_loop.trips) : Fin 3 → Nat :=
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off147 (k0_t12 : Fin k0_t12_loop.trips) : Fin 4 → Nat :=
  let c0_i32_363 : BitVec 32 := 0#32
  let v454 : Index := Scalar.indexCast c0_i32_363
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off148 (k0_t12 : Fin k0_t12_loop.trips) : Fin 4 → Nat :=
  let c1_i32_367 : BitVec 32 := 1#32
  let v468 : Index := Scalar.indexCast c1_i32_367
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off149 (k0_t12 : Fin k0_t12_loop.trips) : Fin 3 → Nat :=
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off150 (k0_t12 : Fin k0_t12_loop.trips) : Fin 4 → Nat :=
  let c0_i32_373 : BitVec 32 := 0#32
  let v490 : Index := Scalar.indexCast c0_i32_373
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off151 (k0_t12 : Fin k0_t12_loop.trips) : Fin 4 → Nat :=
  let c1_i32_377 : BitVec 32 := 1#32
  let v504 : Index := Scalar.indexCast c1_i32_377
  let c0_i32_278 : BitVec 32 := 0#32
  let c1_i32_280 : BitVec 32 := 1#32
  let arg14 : BitVec 32 := Scf.iv c0_i32_278 c1_i32_280 k0_t12
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off152 (i : grid0.Coords) : Fin 5 → Nat :=
  let c62_i32 : BitVec 32 := 62#32
  let c0_i32_296 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_297 : BitVec 32 := 0#32
  let c0_i32_298 : BitVec 32 := 0#32
  ![62, 0, v2.toNat, 0, 0]
@[reducible] def k0_t13_loop : Scf.Loop 32 :=
  let c0_i32_303 : BitVec 32 := 0#32
  let c128_i32_304 : BitVec 32 := 128#32
  let v315 : BitVec 32 := Scalar.addi c0_i32_303 c128_i32_304
  let c1_i32_305 : BitVec 32 := 1#32
  ⟨c0_i32_303, v315, c1_i32_305⟩
def k0_off153 (k0_t13 : Fin k0_t13_loop.trips) : Fin 3 → Nat :=
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off154 (k0_t13 : Fin k0_t13_loop.trips) : Fin 4 → Nat :=
  let c0_i32_343 : BitVec 32 := 0#32
  let v382 : Index := Scalar.indexCast c0_i32_343
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off155 (k0_t13 : Fin k0_t13_loop.trips) : Fin 4 → Nat :=
  let c1_i32_347 : BitVec 32 := 1#32
  let v396 : Index := Scalar.indexCast c1_i32_347
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off156 (k0_t13 : Fin k0_t13_loop.trips) : Fin 3 → Nat :=
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off157 (k0_t13 : Fin k0_t13_loop.trips) : Fin 4 → Nat :=
  let c0_i32_353 : BitVec 32 := 0#32
  let v418 : Index := Scalar.indexCast c0_i32_353
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off158 (k0_t13 : Fin k0_t13_loop.trips) : Fin 4 → Nat :=
  let c1_i32_357 : BitVec 32 := 1#32
  let v432 : Index := Scalar.indexCast c1_i32_357
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off159 (k0_t13 : Fin k0_t13_loop.trips) : Fin 3 → Nat :=
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off160 (k0_t13 : Fin k0_t13_loop.trips) : Fin 4 → Nat :=
  let c0_i32_363 : BitVec 32 := 0#32
  let v454 : Index := Scalar.indexCast c0_i32_363
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off161 (k0_t13 : Fin k0_t13_loop.trips) : Fin 4 → Nat :=
  let c1_i32_367 : BitVec 32 := 1#32
  let v468 : Index := Scalar.indexCast c1_i32_367
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off162 (k0_t13 : Fin k0_t13_loop.trips) : Fin 3 → Nat :=
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off163 (k0_t13 : Fin k0_t13_loop.trips) : Fin 4 → Nat :=
  let c0_i32_373 : BitVec 32 := 0#32
  let v490 : Index := Scalar.indexCast c0_i32_373
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off164 (k0_t13 : Fin k0_t13_loop.trips) : Fin 4 → Nat :=
  let c1_i32_377 : BitVec 32 := 1#32
  let v504 : Index := Scalar.indexCast c1_i32_377
  let c0_i32_303 : BitVec 32 := 0#32
  let c1_i32_305 : BitVec 32 := 1#32
  let arg14 : BitVec 32 := Scf.iv c0_i32_303 c1_i32_305 k0_t13
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
@[reducible] def k0_t14_loop : Scf.Loop 32 :=
  let c0_i32_323 : BitVec 32 := 0#32
  let c128_i32_324 : BitVec 32 := 128#32
  let v338 : BitVec 32 := Scalar.addi c0_i32_323 c128_i32_324
  let c1_i32_325 : BitVec 32 := 1#32
  ⟨c0_i32_323, v338, c1_i32_325⟩
def k0_off165 (k0_t14 : Fin k0_t14_loop.trips) : Fin 3 → Nat :=
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v374 : Index := Scalar.indexCast v372
  let c64_i32_340 : BitVec 32 := 64#32
  let v373 : BitVec 32 := Scalar.remsi arg14 c64_i32_340
  let v375 : Index := Scalar.indexCast v373
  let c0_341 : Index := 0#32
  ![v374.toNat, v375.toNat, 0]
def k0_off166 (k0_t14 : Fin k0_t14_loop.trips) : Fin 4 → Nat :=
  let c0_i32_343 : BitVec 32 := 0#32
  let v382 : Index := Scalar.indexCast c0_i32_343
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v383 : Index := Scalar.indexCast v372
  let c64_i32_340 : BitVec 32 := 64#32
  let v373 : BitVec 32 := Scalar.remsi arg14 c64_i32_340
  let v384 : Index := Scalar.indexCast v373
  let c0_344 : Index := 0#32
  ![0, v383.toNat, v384.toNat, 0]
def k0_off167 (k0_t14 : Fin k0_t14_loop.trips) : Fin 4 → Nat :=
  let c1_i32_347 : BitVec 32 := 1#32
  let v396 : Index := Scalar.indexCast c1_i32_347
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v397 : Index := Scalar.indexCast v372
  let c64_i32_340 : BitVec 32 := 64#32
  let v373 : BitVec 32 := Scalar.remsi arg14 c64_i32_340
  let v398 : Index := Scalar.indexCast v373
  let c0_348 : Index := 0#32
  ![1, v397.toNat, v398.toNat, 0]
def k0_off168 (k0_t14 : Fin k0_t14_loop.trips) : Fin 3 → Nat :=
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v410 : Index := Scalar.indexCast v372
  let c64_i32_340 : BitVec 32 := 64#32
  let v373 : BitVec 32 := Scalar.remsi arg14 c64_i32_340
  let v411 : Index := Scalar.indexCast v373
  let c16_351 : Index := 16#32
  ![v410.toNat, v411.toNat, 16]
def k0_off169 (k0_t14 : Fin k0_t14_loop.trips) : Fin 4 → Nat :=
  let c0_i32_353 : BitVec 32 := 0#32
  let v418 : Index := Scalar.indexCast c0_i32_353
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v419 : Index := Scalar.indexCast v372
  let c64_i32_340 : BitVec 32 := 64#32
  let v373 : BitVec 32 := Scalar.remsi arg14 c64_i32_340
  let v420 : Index := Scalar.indexCast v373
  let c16_354 : Index := 16#32
  ![0, v419.toNat, v420.toNat, 16]
def k0_off170 (k0_t14 : Fin k0_t14_loop.trips) : Fin 4 → Nat :=
  let c1_i32_357 : BitVec 32 := 1#32
  let v432 : Index := Scalar.indexCast c1_i32_357
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v433 : Index := Scalar.indexCast v372
  let c64_i32_340 : BitVec 32 := 64#32
  let v373 : BitVec 32 := Scalar.remsi arg14 c64_i32_340
  let v434 : Index := Scalar.indexCast v373
  let c16_358 : Index := 16#32
  ![1, v433.toNat, v434.toNat, 16]
def k0_off171 (k0_t14 : Fin k0_t14_loop.trips) : Fin 3 → Nat :=
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v446 : Index := Scalar.indexCast v372
  let c64_i32_340 : BitVec 32 := 64#32
  let v373 : BitVec 32 := Scalar.remsi arg14 c64_i32_340
  let v447 : Index := Scalar.indexCast v373
  let c32_361 : Index := 32#32
  ![v446.toNat, v447.toNat, 32]
def k0_off172 (k0_t14 : Fin k0_t14_loop.trips) : Fin 4 → Nat :=
  let c0_i32_363 : BitVec 32 := 0#32
  let v454 : Index := Scalar.indexCast c0_i32_363
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v455 : Index := Scalar.indexCast v372
  let c64_i32_340 : BitVec 32 := 64#32
  let v373 : BitVec 32 := Scalar.remsi arg14 c64_i32_340
  let v456 : Index := Scalar.indexCast v373
  let c32_364 : Index := 32#32
  ![0, v455.toNat, v456.toNat, 32]
def k0_off173 (k0_t14 : Fin k0_t14_loop.trips) : Fin 4 → Nat :=
  let c1_i32_367 : BitVec 32 := 1#32
  let v468 : Index := Scalar.indexCast c1_i32_367
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v469 : Index := Scalar.indexCast v372
  let c64_i32_340 : BitVec 32 := 64#32
  let v373 : BitVec 32 := Scalar.remsi arg14 c64_i32_340
  let v470 : Index := Scalar.indexCast v373
  let c32_368 : Index := 32#32
  ![1, v469.toNat, v470.toNat, 32]
def k0_off174 (k0_t14 : Fin k0_t14_loop.trips) : Fin 3 → Nat :=
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v482 : Index := Scalar.indexCast v372
  let c64_i32_340 : BitVec 32 := 64#32
  let v373 : BitVec 32 := Scalar.remsi arg14 c64_i32_340
  let v483 : Index := Scalar.indexCast v373
  let c48_371 : Index := 48#32
  ![v482.toNat, v483.toNat, 48]
def k0_off175 (k0_t14 : Fin k0_t14_loop.trips) : Fin 4 → Nat :=
  let c0_i32_373 : BitVec 32 := 0#32
  let v490 : Index := Scalar.indexCast c0_i32_373
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v491 : Index := Scalar.indexCast v372
  let c64_i32_340 : BitVec 32 := 64#32
  let v373 : BitVec 32 := Scalar.remsi arg14 c64_i32_340
  let v492 : Index := Scalar.indexCast v373
  let c48_374 : Index := 48#32
  ![0, v491.toNat, v492.toNat, 48]
def k0_off176 (k0_t14 : Fin k0_t14_loop.trips) : Fin 4 → Nat :=
  let c1_i32_377 : BitVec 32 := 1#32
  let v504 : Index := Scalar.indexCast c1_i32_377
  let c0_i32_323 : BitVec 32 := 0#32
  let c1_i32_325 : BitVec 32 := 1#32
  let arg14 : BitVec 32 := Scf.iv c0_i32_323 c1_i32_325 k0_t14
  let c0_i32_334 : BitVec 32 := 0#32
  let v357 : BitVec 1 := Scalar.cmpi .sgt arg14 c0_i32_334
  let v358 : BitVec 32 := Scalar.extui v357
  let c0_i32_335 : BitVec 32 := 0#32
  let v359 : BitVec 1 := Scalar.cmpi .slt arg14 c0_i32_335
  let v360 : BitVec 32 := Scalar.extui v359
  let v361 : BitVec 32 := Scalar.subi v358 v360
  let c64_i32 : BitVec 32 := 64#32
  let c0_i32_336 : BitVec 32 := 0#32
  let v362 : BitVec 1 := Scalar.cmpi .sgt c64_i32 c0_i32_336
  let v363 : BitVec 32 := Scalar.extui v362
  let c0_i32_337 : BitVec 32 := 0#32
  let v364 : BitVec 1 := Scalar.cmpi .slt c64_i32 c0_i32_337
  let v365 : BitVec 32 := Scalar.extui v364
  let v366 : BitVec 32 := Scalar.subi v363 v365
  let v367 : BitVec 1 := Scalar.cmpi .ne v361 v366
  let v368 : BitVec 32 := Scalar.remsi arg14 c64_i32
  let c0_i32_338 : BitVec 32 := 0#32
  let v369 : BitVec 1 := Scalar.cmpi .ne v368 c0_i32_338
  let v370 : BitVec 1 := Scalar.andi v367 v369
  let v356 : BitVec 32 := Scalar.divsi arg14 c64_i32
  let c1_i32_339 : BitVec 32 := 1#32
  let v371 : BitVec 32 := Scalar.subi v356 c1_i32_339
  let v372 : BitVec 32 := Scalar.select v370 v371 v356
  let v505 : Index := Scalar.indexCast v372
  let c64_i32_340 : BitVec 32 := 64#32
  let v373 : BitVec 32 := Scalar.remsi arg14 c64_i32_340
  let v506 : Index := Scalar.indexCast v373
  let c48_378 : Index := 48#32
  ![1, v505.toNat, v506.toNat, 48]
def k0_off177 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_334_r3 : BitVec 32 := 0#32
  let c0_i32_335_r3 : BitVec 32 := 0#32
  ![v1.toNat, 0, 0]
abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_21 : BitVec 32 := 0#32
  let v22 : BitVec 1 := Scalar.cmpi .ne v21 c0_i32_21
  v22

def k1_cond2 (i : grid1.Coords) : BitVec 1 :=
  let arg0 : BitVec 32 := BitVec.ofNat 32 (i 0).val
  let c0_i32_22 : BitVec 32 := 0#32
  let v23 : BitVec 1 := Scalar.cmpi .ne arg0 c0_i32_22
  let v24 : BitVec 32 := Scalar.extui v23
  let c0_i32_23 : BitVec 32 := 0#32
  let v25 : BitVec 1 := Scalar.cmpi .ne v24 c0_i32_23
  v25

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S38x1x8x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x8x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S38x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := .none

abbrev stage2_0 : Fin 1 → Memref sig .tc .vmem S32x16x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1x64x64x64 : Shape := ⟨5, ![64, 1, 64, 64, 64]⟩
abbrev S1x1x64x64x64 : Shape := ⟨5, ![1, 1, 64, 64, 64]⟩
abbrev S2x1x64x64x64 : Shape := ⟨5, ![2, 1, 64, 64, 64]⟩
abbrev S2 : Shape := ⟨1, ![2]⟩
abbrev S_ : Shape := ⟨0, ![]⟩
abbrev S64x2 : Shape := ⟨2, ![64, 2]⟩
abbrev S1x2 : Shape := ⟨2, ![1, 2]⟩

abbrev nBuf : Space → Nat
  | .hbm => 16
  | .vmem => 0
  | .smem => 0
  | _ => 0

abbrev bufTy : (tb : Table) → Fin (tcTables nBuf tb) → BufTy
  | .hbm, ⟨0, _⟩ => ⟨S64x1x64x64x64, .f32⟩
  | .hbm, ⟨1, _⟩ => ⟨S1x1x64x64x64, .f32⟩
  | .hbm, ⟨2, _⟩ => ⟨S2x1x64x64x64, .f32⟩
  | .hbm, ⟨3, _⟩ => ⟨S2, .f32⟩
  | .hbm, ⟨4, _⟩ => ⟨S64x1x64x64x64, .f32⟩
  | .hbm, ⟨5, _⟩ => ⟨S_, .f32⟩
  | .hbm, ⟨6, _⟩ => ⟨S64x1x64x64x64, .f32⟩
  | .hbm, ⟨7, _⟩ => ⟨S64x1x64x64x64, .i1⟩
  | .hbm, ⟨8, _⟩ => ⟨S64x1x64x64x64, .f32⟩
  | .hbm, ⟨9, _⟩ => ⟨S64x1x64x64x64, .f32⟩
  | .hbm, ⟨10, _⟩ => ⟨S64x1x64x64x64, .f32⟩
  | .hbm, ⟨11, _⟩ => ⟨S64x1x64x64x64, .f32⟩
  | .hbm, ⟨12, _⟩ => ⟨S64x2, .f32⟩
  | .hbm, ⟨13, _⟩ => ⟨S1x2, .f32⟩
  | .hbm, ⟨14, _⟩ => ⟨S64x2, .f32⟩
  | .hbm, ⟨15, _⟩ => ⟨S64x2, .f32⟩
  | _, _ => ⟨S64x1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Ideal.Rows.lean ====
/-
  THE ROW LOOP OF A TILE.  A tile of SparseCore holds two depth planes of one batch pair's input (`X`, two members of 2x64x64) and the
  two masked weights (`W0`, `W1`, 2x64x64 each) in its own memory.  One trip of the row loop takes one of the 128 rows and
  adds, to each of four vectors of sixteen lanes, the row's four groups of sixteen products `gate x * w`.  This file says
  what those vectors hold after `t` rows (`rowAcc`) and proves it of the loop, for any three buffers.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.ValueIdxCore
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The values -/

/-- Zero where the entry's magnitude does not pass the threshold, the entry elsewhere. -/
def gate [FloatOps F] (v : FVec F S16 .f32) : FVec F S16 .f32 :=
  select (cmpf .ogt (absf v) (broadcast S16 (Scalar.ofBits (F := F) .f32 0x322BCC77#32))) v (broadcast S16 (Scalar.ofBits (F := F) .f32 0x00000000#32))

/-- Group `g` of sixteen lanes of row `t` of a 2x64x64 array (row `t` is line `t % 64` of plane `t / 64`). -/
def wlane {α : Type} (W : S2x64x64.Idx → α) (t g : ℕ) : S16.Idx → α := fun l =>
  W (ix3 ⟨t / 64 % 2, Nat.mod_lt _ (by decide)⟩ ⟨t % 64, Nat.mod_lt _ (by decide)⟩ ⟨(16 * g + (l 0).val) % 64, Nat.mod_lt _ (by decide)⟩)

/-- Group `g` of sixteen lanes of row `t` of member `b` of a pair of 2x64x64 arrays. -/
def xlane {α : Type} (X : S2x2x64x64.Idx → α) (b : Fin 2) (t g : ℕ) : S16.Idx → α := fun l =>
  X (ix4 b ⟨t / 64 % 2, Nat.mod_lt _ (by decide)⟩ ⟨t % 64, Nat.mod_lt _ (by decide)⟩ ⟨(16 * g + (l 0).val) % 64, Nat.mod_lt _ (by decide)⟩)

/-- One row added to an accumulator: its four groups in order. -/
def rowStep [FloatOps F] (X : S2x2x64x64.Idx → F .f32) (W : S2x64x64.Idx → F .f32) (b : Fin 2) (t : ℕ) (a : FVec F S16 .f32) : FVec F S16 .f32 :=
  addf (addf (addf (addf a (mulf (gate (xlane X b t 0)) (wlane W t 0))) (mulf (gate (xlane X b t 1)) (wlane W t 1)))
    (mulf (gate (xlane X b t 2)) (wlane W t 2))) (mulf (gate (xlane X b t 3)) (wlane W t 3))

/-- The accumulator after the first `t` rows, from zero. -/
def rowAcc [FloatOps F] (X : S2x2x64x64.Idx → F .f32) (W : S2x64x64.Idx → F .f32) (b : Fin 2) : ℕ → FVec F S16 .f32
  | 0 => broadcast S16 (Scalar.ofBits (F := F) .f32 0x00000000#32)
  | t + 1 => rowStep X W b t (rowAcc X W b t)

/-! ## What a load reads -/

section Loads

variable {κ : Kind} {sp : Space}

/-- A load of sixteen lanes of a 2x64x64 buffer, as a vector. -/
theorem load3 {v : View sig κ sp S2x64x64 .f32} (f : v.ty.Contents (Elt F)) {off : Fin S2x64x64.rank → ℕ} {t g : ℕ}
    (h : off = ![t / 64, t % 64, 16 * g]) (ht : t < 128) (hg : g < 4) (hi : ∀ a, off a + S1x1x16.size a ≤ S2x64x64.size a) :
    shapeCast S16 (v.readAt (Elt F) (Rect.unit (s := S2x64x64) off S1x1x16.size hi).toLoadRect f) shapeCasts_S1x1x16_S16 = wlane (v.read (Elt F) f) t g := by
  subst h
  funext l
  have hl : (l 0).val < 16 := (l 0).isLt
  refine (shapeCast_apply _ shapeCasts_S1x1x16_S16 l (ix3 0 0 (l 0)) ?_).trans ?_
  · rw [Shape.rowMajor_val_three, Shape.rowMajor_val_one]; simp
  · rw [View.readAt_apply]; unfold wlane; congr 1
    funext a; apply Fin.ext; rw [LoadRect.idx_apply]
    match a with
    | ⟨0, _⟩ => simp [Rect.unit]; omega
    | ⟨1, _⟩ => simp [Rect.unit]
    | ⟨2, _⟩ => show 16 * g + 1 * (l 0).val = (16 * g + (l 0).val) % 64; omega

/-- A load of sixteen lanes of a 2x2x64x64 buffer, as a vector. -/
theorem load4 {v : View sig κ sp S2x2x64x64 .f32} (f : v.ty.Contents (Elt F)) {off : Fin S2x2x64x64.rank → ℕ} {t g : ℕ} {b : Fin 2}
    (h : off = ![b.val, t / 64, t % 64, 16 * g]) (ht : t < 128) (hg : g < 4) (hi : ∀ a, off a + S1x1x1x16.size a ≤ S2x2x64x64.size a) :
    shapeCast S16 (v.readAt (Elt F) (Rect.unit (s := S2x2x64x64) off S1x1x1x16.size hi).toLoadRect f) shapeCasts_S1x1x1x16_S16 = xlane (v.read (Elt F) f) b t g := by
  subst h
  funext l
  have hl : (l 0).val < 16 := (l 0).isLt
  refine (shapeCast_apply _ shapeCasts_S1x1x1x16_S16 l (ix4 0 0 0 (l 0)) ?_).trans ?_
  · rw [Shape.rowMajor_val_four, Shape.rowMajor_val_one]; simp
  · rw [View.readAt_apply]; unfold xlane; congr 1
    funext a; apply Fin.ext; rw [LoadRect.idx_apply]
    match a with
    | ⟨0, _⟩ => simp [Rect.unit]
    | ⟨1, _⟩ => simp [Rect.unit]; omega
    | ⟨2, _⟩ => simp [Rect.unit]
    | ⟨3, _⟩ => show 16 * g + 1 * (l 0).val = (16 * g + (l 0).val) % 64; omega

end Loads

/-! ## The offsets of a trip -/

theorem off10 : ∀ k : Fin k0_t2_loop.trips, k0_off10 k = ![k.val / 64, k.val % 64, 16 * 0] := by decide +kernel
theorem off13 : ∀ k : Fin k0_t2_loop.trips, k0_off13 k = ![k.val / 64, k.val % 64, 16 * 1] := by decide +kernel
theorem off16 : ∀ k : Fin k0_t2_loop.trips, k0_off16 k = ![k.val / 64, k.val % 64, 16 * 2] := by decide +kernel
theorem off19 : ∀ k : Fin k0_t2_loop.trips, k0_off19 k = ![k.val / 64, k.val % 64, 16 * 3] := by decide +kernel
theorem off11 : ∀ k : Fin k0_t2_loop.trips, k0_off11 k = ![(0 : Fin 2).val, k.val / 64, k.val % 64, 16 * 0] := by decide +kernel
theorem off14 : ∀ k : Fin k0_t2_loop.trips, k0_off14 k = ![(0 : Fin 2).val, k.val / 64, k.val % 64, 16 * 1] := by decide +kernel
theorem off17 : ∀ k : Fin k0_t2_loop.trips, k0_off17 k = ![(0 : Fin 2).val, k.val / 64, k.val % 64, 16 * 2] := by decide +kernel
theorem off20 : ∀ k : Fin k0_t2_loop.trips, k0_off20 k = ![(0 : Fin 2).val, k.val / 64, k.val % 64, 16 * 3] := by decide +kernel
theorem off12 : ∀ k : Fin k0_t2_loop.trips, k0_off12 k = ![(1 : Fin 2).val, k.val / 64, k.val % 64, 16 * 0] := by decide +kernel
theorem off15 : ∀ k : Fin k0_t2_loop.trips, k0_off15 k = ![(1 : Fin 2).val, k.val / 64, k.val % 64, 16 * 1] := by decide +kernel
theorem off18 : ∀ k : Fin k0_t2_loop.trips, k0_off18 k = ![(1 : Fin 2).val, k.val / 64, k.val % 64, 16 * 2] := by decide +kernel
theorem off21 : ∀ k : Fin k0_t2_loop.trips, k0_off21 k = ![(1 : Fin 2).val, k.val / 64, k.val % 64, 16 * 3] := by decide +kernel

theorem trips_lt (k : Fin k0_t2_loop.trips) : k.val < 128 := k.isLt

/-! ## The loop -/

abbrev UH : Type := URounds (GSem nD τ sig) ℕ
abbrev UP : Type := URounds (GSem nD τ sig) Unit
abbrev UU : Type := UH × UP × Counters

local notation "𝕄" => MT nD τ sig (HIx 1) (Elt F) ℕ UU ℕ

section Loop

variable [FloatOps F] (d : Dev nD) (i : grid0.Coords)

abbrev thrV : Thread nD τ := V d ((i 0).castLE hcore0) ((i 1).castLE hsub0)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- What the loop holds after `t` rows: the three buffers as they were, the four accumulators the two members' sums against the two weights. -/
def rowInv (q0 q1 q2 : PosShare TreeShare) (f7 : Buf (Elt F) (arg7.view.loc (thrV d i))) (f8 : Buf (Elt F) (arg8.view.loc (thrV d i)))
    (f9 : Buf (Elt F) (arg9.view.loc (thrV d i))) (t : ℕ) (a : FVec F S16 .f32 × FVec F S16 .f32 × FVec F S16 .f32 × FVec F S16 .f32) : sProp 𝕄 :=
  iprop(⌜a = (rowAcc (arg9.view.read (Elt F) f9) (arg7.view.read (Elt F) f7) 0 t, rowAcc (arg9.view.read (Elt F) f9) (arg8.view.read (Elt F) f8) 0 t,
        rowAcc (arg9.view.read (Elt F) f9) (arg7.view.read (Elt F) f7) 1 t, rowAcc (arg9.view.read (Elt F) f9) (arg8.view.read (Elt F) f8) 1 t)⌝
    ∗ (arg7.view.loc (thrV d i) ↦{q0} f7) ∗ (arg8.view.loc (thrV d i) ↦{q1} f8) ∗ (arg9.view.loc (thrV d i) ↦{q2} f9))

set_option maxHeartbeats 1000000 in
theorem row_trip (q0 q1 q2 : PosShare TreeShare) (f7 : Buf (Elt F) (arg7.view.loc (thrV d i))) (f8 : Buf (Elt F) (arg8.view.loc (thrV d i)))
    (f9 : Buf (Elt F) (arg9.view.loc (thrV d i))) (k : Fin k0_t2_loop.trips) (a : FVec F S16 .f32 × FVec F S16 .f32 × FVec F S16 .f32 × FVec F S16 .f32) :
    rowInv d i arg7 arg8 arg9 q0 q1 q2 f7 f8 f9 k.val a
      ⊢ wp frame (wpE (defs₀ (F := F)) Variants.none (thrV d i) none) Set.univ
          (k0_t2_body i arg2 harg2 arg3 harg3 arg4 harg4 arg5 harg5 arg6 harg6 arg7 harg7 arg8 harg8 arg9 harg9 arg10 harg10 arg11 harg11 arg12 arg13 v356_r0 v356_r1 v356_r2 v356_r3 k a)
          (rowInv d i arg7 arg8 arg9 q0 q1 q2 f7 f8 f9 (k.val + 1)) := by
  obtain ⟨a0, a1, a2, a3⟩ := a
  unfold rowInv
  iintro ⟨%ha, H7, H8, H9⟩
  unfold k0_t2_body
  simp only [k0_part3_eq_skeleton, k0_part4_eq_skeleton, k0_part5_eq_skeleton]
  unfold k0_part3_skel k0_part4_skel k0_part5_skel
  sl_exec
  sl_step
  isplitr
  · ipureintro
    obtain ⟨rfl, rfl, rfl, rfl⟩ : a0 = _ ∧ a1 = _ ∧ a2 = _ ∧ a3 = _ := by simpa only [Prod.mk.injEq] using ha
    have ht := trips_lt k
    have e10 := load3 (F := F) (v := arg7.view) f7 (off10 k) ht (by decide) (k0_off10_inb k)
    have e10' := load3 (F := F) (v := arg8.view) f8 (off10 k) ht (by decide) (k0_off10_inb k)
    have e13 := load3 (F := F) (v := arg7.view) f7 (off13 k) ht (by decide) (k0_off13_inb k)
    have e13' := load3 (F := F) (v := arg8.view) f8 (off13 k) ht (by decide) (k0_off13_inb k)
    have e16 := load3 (F := F) (v := arg7.view) f7 (off16 k) ht (by decide) (k0_off16_inb k)
    have e16' := load3 (F := F) (v := arg8.view) f8 (off16 k) ht (by decide) (k0_off16_inb k)
    have e19 := load3 (F := F) (v := arg7.view) f7 (off19 k) ht (by decide) (k0_off19_inb k)
    have e19' := load3 (F := F) (v := arg8.view) f8 (off19 k) ht (by decide) (k0_off19_inb k)
    have e11 := load4 (F := F) (v := arg9.view) f9 (off11 k) ht (by decide) (k0_off11_inb k)
    have e14 := load4 (F := F) (v := arg9.view) f9 (off14 k) ht (by decide) (k0_off14_inb k)
    have e17 := load4 (F := F) (v := arg9.view) f9 (off17 k) ht (by decide) (k0_off17_inb k)
    have e20 := load4 (F := F) (v := arg9.view) f9 (off20 k) ht (by decide) (k0_off20_inb k)
    have e12 := load4 (F := F) (v := arg9.view) f9 (off12 k) ht (by decide) (k0_off12_inb k)
    have e15 := load4 (F := F) (v := arg9.view) f9 (off15 k) ht (by decide) (k0_off15_inb k)
    have e18 := load4 (F := F) (v := arg9.view) f9 (off18 k) ht (by decide) (k0_off18_inb k)
    have e21 := load4 (F := F) (v := arg9.view) f9 (off21 k) ht (by decide) (k0_off21_inb k)
    refine Prod.ext ?_ (Prod.ext ?_ (Prod.ext ?_ ?_)) <;>
      dsimp only [rowAcc, rowStep, k0_pay12, k0_pay13, k0_pay15, k0_pay16, k0_pay21, k0_pay22, k0_pay24, k0_pay25, k0_pay29, k0_pay30, k0_pay32, k0_pay33,
        k0_pay34, k0_pay35, k0_pay329, k0_pay330, k0_pay332, k0_pay333, k0_pay14, k0_pay17, k0_pay18, k0_pay19, k0_pay20, k0_pay23, k0_pay26, k0_pay27, k0_pay28, k0_pay31,
        k0_pay328, k0_pay331] <;>
      simp only [e10, e10', e13, e13', e16, e16', e19, e19', e11, e12, e14, e15, e17, e18, e20, e21] <;> rfl
  · isplitl [H7]; · iexact H7
    isplitl [H8]; · iexact H8
    iexact H9

end Loop

end Cert.KernelIdeal.Tile
end
-- ==== Proof.Ideal.Mid.lean ====
/-
  ONE CHUNK OF A TILE.  A tile works through 13 chunks, a pair of batch members each.  The middle of the body is one step
  repeated: the previous chunk's four sums are stored into the part array, the chunk's copy is waited for, the next chunk's
  copy is started into the other buffer, and the row loop runs over the chunk.  Here the step is written once over the two
  buffers (`mid`), each printed part is read as an instance of it, and what it does is proved once.
-/
module

public import proofs.«01_k».proof.Proof.Ideal.Rows

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- A chunk of the input as the body slices it at an offset. -/
abbrev xChunk (o : Fin S64x1x64x64x64.rank → ℕ) (h : ∀ a, o a + S2x1x2x64x64.size a ≤ S64x1x64x64x64.size a) : Memref sig .scVector .hbm S2x2x64x64 .f32 :=
  (arg2.slice (Rect.unit (s := S64x1x64x64x64) o S2x1x2x64x64.size h) (fun _ => rfl)).squeeze S2x2x64x64 squeezes_S2x1x2x64x64_S2x2x64x64

/-- Sixteen lanes laid out as one row of sixteen. -/
def asRow (v : FVec F S16 .f32) : FVec F S1x16 .f32 := shapeCast S1x16 v shapeCasts_S16_S1x16

/-- The four zero vectors a chunk's row loop starts from. -/
abbrev zero4 : FVec F S16 .f32 × FVec F S16 .f32 × FVec F S16 .f32 × FVec F S16 .f32 := (k0_pay327, k0_pay327, k0_pay327, k0_pay327)

/-- One vector stored into the part array at an offset (the load before the store reads what nobody uses). -/
def put (o : Fin S16x128.rank → ℕ) (h : ∀ a, o a + S1x16.size a ≤ S16x128.size a) (v : FVec F S16 .f32) :
    Prog (TpuEff nD τ sig (Elt F) Λ₀ (.scVector ((i 0).castLE hcore0) ((i 1).castLE hsub0))) PUnit := do
  let _ : Vec F S1x16 .f32 ← Prog.lift (.load arg11 (Rect.unit (s := S16x128) o S1x16.size h).toLoadRect (View.loadsAt_vmem h_S1x16))
  Prog.lift (.store arg11 (Rect.unit (s := S16x128) o S1x16.size h) (asRow v) Finset.univ (View.stores_vmem_bits_univ h_S1x16 rfl) (.inl rfl))

/-- The step, `arg9` the buffer waited for and read, `arg10` the one filled next: four stores, the wait, the next copy, the row loop. -/
def mid (o0 o1 o2 o3 : Fin S16x128.rank → ℕ) (h0 : ∀ a, o0 a + S1x16.size a ≤ S16x128.size a) (h1 : ∀ a, o1 a + S1x16.size a ≤ S16x128.size a)
    (h2 : ∀ a, o2 a + S1x16.size a ≤ S16x128.size a) (h3 : ∀ a, o3 a + S1x16.size a ≤ S16x128.size a)
    (xw xe : Fin S64x1x64x64x64.rank → ℕ) (hw : ∀ a, xw a + S2x1x2x64x64.size a ≤ S64x1x64x64x64.size a) (he : ∀ a, xe a + S2x1x2x64x64.size a ≤ S64x1x64x64x64.size a)
    (a0 a1 a2 a3 : FVec F S16 .f32) :
    Prog (TpuEff nD τ sig (Elt F) Λ₀ (.scVector ((i 0).castLE hcore0) ((i 1).castLE hsub0))) (Σ' (_ : FVec F S16 .f32) (_ : FVec F S16 .f32) (_ : FVec F S16 .f32), FVec F S16 .f32) := do
  put i arg11 o0 h0 a0
  put i arg11 o1 h1 a1
  put i arg11 o2 h2 a2
  put i arg11 o3 h3 a3
  Prog.lift (.waitDma2 arg12.sem (xChunk arg2 xw hw) arg9 ((View.wordExact_bits rfl).reshape _ _) harg9.wordExact)
  Prog.lift (.enqueueDma (xChunk arg2 xe he) (.here arg10) (.dma arg13.sem) ((View.wordExact_bits rfl).reshape _ _) harg10.wordExact ⟨Or.inl rfl, trivial⟩)
  let (r0, r1, r2, r3) ← Scf.Loop.for k0_t2_loop k0_t2_ok zero4
    (k0_t2_body i arg2 harg2 arg3 harg3 arg4 harg4 arg5 harg5 arg6 harg6 arg7 harg7 arg8 harg8 arg9 harg9 arg10 harg10 arg11 harg11 arg12 arg13 v356_r0 v356_r1 v356_r2 v356_r3)
  pure ⟨r0, r1, r2, r3⟩

set_option maxRecDepth 65536 in
theorem part44_eq (a0 a1 a2 a3 : FVec F S16 .f32) : k0_part44 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg10 harg10 arg9 harg9 arg11 harg11 arg13 arg12 v356_r0 v356_r1 v356_r2 v356_r3
        ![0, 0] ![0, 16] ![0, 32] ![0, 48] inb_S16x128_S1x16_0_0 inb_S16x128_S1x16_0_16 inb_S16x128_S1x16_0_32 inb_S16x128_S1x16_0_48
        (k0_off9 i) (k0_off22 i) (k0_off9_inb i) (k0_off22_inb i) a0 a1 a2 a3 := rfl

set_option maxRecDepth 65536 in
theorem part45_eq (a0 a1 a2 a3 : FVec F S16 .f32) : k0_part45 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg9 harg9 arg10 harg10 arg11 harg11 arg12 arg13 v356_r0 v356_r1 v356_r2 v356_r3
        ![0, 64] ![0, 80] ![0, 96] ![0, 112] inb_S16x128_S1x16_0_64 inb_S16x128_S1x16_0_80 inb_S16x128_S1x16_0_96 inb_S16x128_S1x16_0_112
        (k0_off22 i) (k0_off35 i) (k0_off22_inb i) (k0_off35_inb i) a0 a1 a2 a3 := rfl

set_option maxRecDepth 65536 in
theorem part46_eq (a0 a1 a2 a3 : FVec F S16 .f32) : k0_part46 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg10 harg10 arg9 harg9 arg11 harg11 arg13 arg12 v356_r0 v356_r1 v356_r2 v356_r3
        ![1, 0] ![1, 16] ![1, 32] ![1, 48] inb_S16x128_S1x16_1_0 inb_S16x128_S1x16_1_16 inb_S16x128_S1x16_1_32 inb_S16x128_S1x16_1_48
        (k0_off35 i) (k0_off48 i) (k0_off35_inb i) (k0_off48_inb i) a0 a1 a2 a3 := rfl

set_option maxRecDepth 65536 in
theorem part47_eq (a0 a1 a2 a3 : FVec F S16 .f32) : k0_part47 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg9 harg9 arg10 harg10 arg11 harg11 arg12 arg13 v356_r0 v356_r1 v356_r2 v356_r3
        ![1, 64] ![1, 80] ![1, 96] ![1, 112] inb_S16x128_S1x16_1_64 inb_S16x128_S1x16_1_80 inb_S16x128_S1x16_1_96 inb_S16x128_S1x16_1_112
        (k0_off48 i) (k0_off61 i) (k0_off48_inb i) (k0_off61_inb i) a0 a1 a2 a3 := rfl

set_option maxRecDepth 65536 in
theorem part48_eq (a0 a1 a2 a3 : FVec F S16 .f32) : k0_part48 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg10 harg10 arg9 harg9 arg11 harg11 arg13 arg12 v356_r0 v356_r1 v356_r2 v356_r3
        ![2, 0] ![2, 16] ![2, 32] ![2, 48] inb_S16x128_S1x16_2_0 inb_S16x128_S1x16_2_16 inb_S16x128_S1x16_2_32 inb_S16x128_S1x16_2_48
        (k0_off61 i) (k0_off74 i) (k0_off61_inb i) (k0_off74_inb i) a0 a1 a2 a3 := rfl

set_option maxRecDepth 65536 in
theorem part49_eq (a0 a1 a2 a3 : FVec F S16 .f32) : k0_part49 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg9 harg9 arg10 harg10 arg11 harg11 arg12 arg13 v356_r0 v356_r1 v356_r2 v356_r3
        ![2, 64] ![2, 80] ![2, 96] ![2, 112] inb_S16x128_S1x16_2_64 inb_S16x128_S1x16_2_80 inb_S16x128_S1x16_2_96 inb_S16x128_S1x16_2_112
        (k0_off74 i) (k0_off87 i) (k0_off74_inb i) (k0_off87_inb i) a0 a1 a2 a3 := rfl

set_option maxRecDepth 65536 in
theorem part50_eq (a0 a1 a2 a3 : FVec F S16 .f32) : k0_part50 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg10 harg10 arg9 harg9 arg11 harg11 arg13 arg12 v356_r0 v356_r1 v356_r2 v356_r3
        ![3, 0] ![3, 16] ![3, 32] ![3, 48] inb_S16x128_S1x16_3_0 inb_S16x128_S1x16_3_16 inb_S16x128_S1x16_3_32 inb_S16x128_S1x16_3_48
        (k0_off87 i) (k0_off100 i) (k0_off87_inb i) (k0_off100_inb i) a0 a1 a2 a3 := rfl

set_option maxRecDepth 65536 in
theorem part51_eq (a0 a1 a2 a3 : FVec F S16 .f32) : k0_part51 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg9 harg9 arg10 harg10 arg11 harg11 arg12 arg13 v356_r0 v356_r1 v356_r2 v356_r3
        ![3, 64] ![3, 80] ![3, 96] ![3, 112] inb_S16x128_S1x16_3_64 inb_S16x128_S1x16_3_80 inb_S16x128_S1x16_3_96 inb_S16x128_S1x16_3_112
        (k0_off100 i) (k0_off113 i) (k0_off100_inb i) (k0_off113_inb i) a0 a1 a2 a3 := rfl

set_option maxRecDepth 65536 in
theorem part52_eq (a0 a1 a2 a3 : FVec F S16 .f32) : k0_part52 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg10 harg10 arg9 harg9 arg11 harg11 arg13 arg12 v356_r0 v356_r1 v356_r2 v356_r3
        ![4, 0] ![4, 16] ![4, 32] ![4, 48] inb_S16x128_S1x16_4_0 inb_S16x128_S1x16_4_16 inb_S16x128_S1x16_4_32 inb_S16x128_S1x16_4_48
        (k0_off113 i) (k0_off126 i) (k0_off113_inb i) (k0_off126_inb i) a0 a1 a2 a3 := rfl

set_option maxRecDepth 65536 in
theorem part53_eq (a0 a1 a2 a3 : FVec F S16 .f32) : k0_part53 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg9 harg9 arg10 harg10 arg11 harg11 arg12 arg13 v356_r0 v356_r1 v356_r2 v356_r3
        ![4, 64] ![4, 80] ![4, 96] ![4, 112] inb_S16x128_S1x16_4_64 inb_S16x128_S1x16_4_80 inb_S16x128_S1x16_4_96 inb_S16x128_S1x16_4_112
        (k0_off126 i) (k0_off139 i) (k0_off126_inb i) (k0_off139_inb i) a0 a1 a2 a3 := rfl

set_option maxRecDepth 65536 in
theorem part54_eq (a0 a1 a2 a3 : FVec F S16 .f32) : k0_part54 i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = mid i arg2 harg2 arg3 harg3 arg4 harg4 arg5 harg5 arg6 harg6 arg7 harg7 arg8 harg8 arg10 harg10 arg9 harg9 arg11 harg11 arg13 arg12 v356_r0 v356_r1 v356_r2 v356_r3
        ![5, 0] ![5, 16] ![5, 32] ![5, 48] inb_S16x128_S1x16_5_0 inb_S16x128_S1x16_5_16 inb_S16x128_S1x16_5_32 inb_S16x128_S1x16_5_48
        (k0_off139 i) (k0_off152 i) (k0_off139_inb i) (k0_off152_inb i) a0 a1 a2 a3 := rfl

/-! ## What a step does -/

/-- The slots stored so far: slot `s < n` of the part array (row `s / 8`, lanes from `16 * (s % 8)`) holds `vals s`. -/
def PartOK {α : Type} (vals : ℕ → S16.Idx → α) (n : ℕ) (g : S16x128.Idx → α) : Prop :=
  ∀ s < n, ∀ l : S16.Idx, g (ix2 ⟨s / 8 % 16, Nat.mod_lt _ (by decide)⟩ ⟨(16 * (s % 8) + (l 0).val) % 128, Nat.mod_lt _ (by decide)⟩) = vals s l

omit [FloatOps F] in
theorem asRow_apply (v : FVec F S16 .f32) (l : S16.Idx) : asRow v (ix2 0 (l 0)) = v l := by
  unfold asRow
  refine shapeCast_apply _ shapeCasts_S16_S1x16 _ l ?_
  rw [Shape.rowMajor_val_two, Shape.rowMajor_val_one]; simp

omit [FloatOps F] in
/-- Storing the next slot. -/
theorem PartOK.put {v : View sig .scVector .vmem S16x128 .f32} {vals : ℕ → FVec F S16 .f32} {n : ℕ} {f : v.ty.Contents (Elt F)} {o : Fin S16x128.rank → ℕ}
    (h : PartOK vals n (v.read (Elt F) f)) (hn : n < 128) (ho : o = ![n / 8, 16 * (n % 8)]) (hi : ∀ a, o a + S1x16.size a ≤ S16x128.size a) :
    PartOK vals (n + 1) (v.read (Elt F) ((v.slice (Rect.unit (s := S16x128) o S1x16.size hi)).write (Elt F) f (asRow (vals n)) Finset.univ)) := by
  subst ho
  intro s hs l
  have hl : (l 0).val < 16 := (l 0).isLt
  by_cases hsn : s = n
  · subst hsn
    have e : (ix2 ⟨s / 8 % 16, Nat.mod_lt _ (by decide)⟩ ⟨(16 * (s % 8) + (l 0).val) % 128, Nat.mod_lt _ (by decide)⟩ : S16x128.Idx)
        = (Rect.unit (s := S16x128) ![s / 8, 16 * (s % 8)] S1x16.size hi).emb (ix2 0 (l 0)) := by
      funext a; apply Fin.ext
      match a with
      | ⟨0, _⟩ => show s / 8 % 16 = s / 8 + 1 * 0; omega
      | ⟨1, _⟩ => show (16 * (s % 8) + (l 0).val) % 128 = 16 * (s % 8) + 1 * (l 0).val; omega
    rw [e, View.read_slice_write_emb _ _ _ (Finset.mem_univ _)]
    exact asRow_apply _ l
  · rw [View.read_slice_write_of_not_mem]
    · exact h s (by omega) l
    · rw [Rect.map_emb_univ]
      intro hm
      obtain ⟨x, hx⟩ := LoadRect.exists_idx_of_mem _ hm
      have h0 := congrArg Fin.val (congrFun hx 0)
      have h1 := congrArg Fin.val (congrFun hx 1)
      have hx0 : (x 0).val < 1 := (x 0).isLt
      have hx1 : (x 1).val < 16 := (x 1).isLt
      replace h0 : n / 8 + 1 * (x 0).val = s / 8 % 16 := h0
      replace h1 : 16 * (n % 8) + 1 * (x 1).val = (16 * (s % 8) + (l 0).val) % 128 := h1
      omega

abbrev WP {α : Type} (p : Prog (TpuEff nD τ sig (Elt F) Λ₀ (.scVector ((i 0).castLE hcore0) ((i 1).castLE hsub0))) α) (Q : α → sProp 𝕄) : sProp 𝕄 :=
  wp frame (wpE (defs₀ (F := F)) Variants.none (thrV d i) none) Set.univ p Q

theorem put_spec {vals : ℕ → FVec F S16 .f32} {n : ℕ} {o : Fin S16x128.rank → ℕ} (hn : n < 128) (ho : o = ![n / 8, 16 * (n % 8)])
    (hi : ∀ a, o a + S1x16.size a ≤ S16x128.size a) {v : FVec F S16 .f32} (hv : v = vals n) :
    iprop(∃ f, ⌜PartOK vals n (arg11.view.read (Elt F) f)⌝ ∗ arg11.view.loc (thrV d i) ↦{fullShare} f)
      ⊢ WP d i (put i arg11 o hi v) fun _ => iprop(∃ f, ⌜PartOK vals (n + 1) (arg11.view.read (Elt F) f)⌝ ∗ arg11.view.loc (thrV d i) ↦{fullShare} f) := by
  subst hv
  unfold put WP
  iintro ⟨%f, %hf, H⟩
  sl_exec
  sl_step
  iexists _
  isplitr
  · ipureintro; exact hf.put hn ho hi
  · iexact H

/-- A copy under way: the buffer to be filled with what the input's chunk holds, the input's share to come back whole. -/
def inFlight (b : Memref sig .scVector .vmem S2x2x64x64 .f32) (sem : DmaSems sig S_) (o : Fin S64x1x64x64x64.rank → ℕ)
    (h : ∀ a, o a + S2x1x2x64x64.size a ≤ S64x1x64x64x64.size a) (q : PosShare TreeShare) (fx : Buf (Elt F) (arg2.view.loc (thrV d i))) : sProp 𝕄 :=
  Transfers.Flight countersEmb (thrV d i) (.dma sem.sem) (none : HIx 1) b.view.dmaCredit
    iprop((∃ f, ⌜b.view.read (Elt F) f = (xChunk arg2 o h).view.read (Elt F) fx⌝ ∗ b.view.loc (thrV d i) ↦{fullShare} f)
      ∗ (xChunk arg2 o h).view.loc (thrV d i) ↦[(xChunk arg2 o h).view.set]{q} fx)

/-- The rest of the input's share while a copy of a chunk is under way. -/
def restX (o : Fin S64x1x64x64x64.rank → ℕ)
    (h : ∀ a, o a + S2x1x2x64x64.size a ≤ S64x1x64x64x64.size a) (q : PosShare TreeShare) (fx : Buf (Elt F) (arg2.view.loc (thrV d i))) : sProp 𝕄 :=
  iprop(arg2.view.loc (thrV d i) ↦[Finset.univ \ (xChunk arg2 o h).view.set]{q} fx)

theorem issue_spec (b : Memref sig .scVector .vmem S2x2x64x64 .f32) (hb : b.IsWhole) (sem : DmaSems sig S_) (o : Fin S64x1x64x64x64.rank → ℕ)
    (h : ∀ a, o a + S2x1x2x64x64.size a ≤ S64x1x64x64x64.size a) (q : PosShare TreeShare) (fx : Buf (Elt F) (arg2.view.loc (thrV d i))) :
    iprop((arg2.view.loc (thrV d i) ↦{q} fx) ∗ (∃ f, b.view.loc (thrV d i) ↦{fullShare} f) ∗ semVal (thrV d i, .dma sem.sem) 0)
      ⊢ WP d i (Prog.lift (.enqueueDma (xChunk arg2 o h) (.here b) (.dma sem.sem) ((View.wordExact_bits rfl).reshape _ _) hb.wordExact ⟨Or.inl rfl, trivial⟩))
          fun _ => iprop(inFlight d i arg2 b sem o h q fx ∗ restX d i arg2 o h q fx) := by
  iintro ⟨Hx, ⟨%f, Hb⟩, Hs⟩
  ihave Hx' := (pointsTo_split_subset (Finset.subset_univ ((xChunk arg2 o h).view.set))).1 $$ Hx
  icases Hx' with ⟨Hx, Hr⟩
  iapply (Transfers.wp_dmaLocal countersEmb Variants.none (thrV d i) none (none : HIx 1) b.view.dmaCredit rfl
    (View.dmaCredit_pos _ (by decide)) (Finset.subset_univ _)) $$ [Hx Hb Hs]
  · isplitl [Hx]; · iexact Hx
    isplitl [Hb]; · iexact Hb
    iexact Hs
  iintro HF
  rw [wp_ret]
  imodintro
  isplitl [HF]
  · unfold inFlight
    iapply (Transfers.Flight_mono countersEmb (thrV d i) ?_) $$ HF
    iintro ⟨Hb, Hx⟩
    isplitl [Hb]
    · iexists (b.view.write (Elt F) f (ReadAs.same.apply ((xChunk arg2 o h).view.read (Elt F) fx)) Finset.univ)
      isplitr
      · ipureintro; exact View.read_write_univ _ _
      · iexact Hb
    · iexact Hx
  · unfold restX; iexact Hr

theorem collect_spec (b : Memref sig .scVector .vmem S2x2x64x64 .f32) (hb : b.IsWhole) (sem : DmaSems sig S_) (o : Fin S64x1x64x64x64.rank → ℕ)
    (h : ∀ a, o a + S2x1x2x64x64.size a ≤ S64x1x64x64x64.size a) (q : PosShare TreeShare) (fx : Buf (Elt F) (arg2.view.loc (thrV d i)))
    (O : CellTallies nD τ sig (HIx 1)) (W : Waits sig (HIx 1)) :
    iprop(inFlight d i arg2 b sem o h q fx ∗ restX d i arg2 o h q fx ∗ Transfers.MayWaits (thrV d i) (none : HIx 1) O ∗ owes (thrV d i) O W)
      ⊢ WP d i (Prog.lift (.waitDma2 sem.sem (xChunk arg2 o h) b ((View.wordExact_bits rfl).reshape _ _) hb.wordExact))
          fun _ => iprop((arg2.view.loc (thrV d i) ↦{q} fx)
            ∗ (∃ f, ⌜b.view.read (Elt F) f = (xChunk arg2 o h).view.read (Elt F) fx⌝ ∗ b.view.loc (thrV d i) ↦{fullShare} f)
            ∗ semVal (thrV d i, .dma sem.sem) 0 ∗ owes (thrV d i) O (insert (SemLoc.dma sem.sem, none) W)) := by
  iintro ⟨HF, Hr, Hmw, HO⟩
  ihave Hm := (Transfers.MayWaits.elim (SemLoc.dma sem.sem)) $$ Hmw
  unfold inFlight restX
  iapply (Transfers.wp_waitLocalO countersEmb Variants.none (thrV d i) none (none : HIx 1) rfl) $$ [HF HO Hm]
  · isplitl [HF]; · iexact HF
    isplitl [HO]; · iexact HO
    iexact Hm
  iintro ⟨⟨Hb, Hx⟩, Hs, HO⟩
  rw [wp_ret]
  imodintro
  isplitl [Hx Hr]
  · iapply (pointsTo_split_subset (Finset.subset_univ ((xChunk arg2 o h).view.set))).2
    isplitl [Hx]; · iexact Hx
    iexact Hr
  isplitl [Hb]; · iexact Hb
  isplitl [Hs]; · iexact Hs
  iexact HO

/-- The row loop over one chunk, from zero. -/
theorem row_loop (q0 q1 q2 : PosShare TreeShare) (f7 : Buf (Elt F) (arg7.view.loc (thrV d i))) (f8 : Buf (Elt F) (arg8.view.loc (thrV d i)))
    (f9 : Buf (Elt F) (arg9.view.loc (thrV d i))) :
    iprop((arg7.view.loc (thrV d i) ↦{q0} f7) ∗ (arg8.view.loc (thrV d i) ↦{q1} f8) ∗ (arg9.view.loc (thrV d i) ↦{q2} f9))
      ⊢ WP d i (Scf.Loop.for k0_t2_loop k0_t2_ok zero4
          (k0_t2_body i arg2 harg2 arg3 harg3 arg4 harg4 arg5 harg5 arg6 harg6 arg7 harg7 arg8 harg8 arg9 harg9 arg10 harg10 arg11 harg11 arg12 arg13 v356_r0 v356_r1 v356_r2 v356_r3))
          (rowInv d i arg7 arg8 arg9 q0 q1 q2 f7 f8 f9 128) := by
  refine BIBase.Entails.trans ?_ (Scf.wp_for frame (wpE (defs₀ (F := F)) Variants.none (thrV d i) none) Set.univ _ _ _ k0_t2_ok zero4 _
    (rowInv d i arg7 arg8 arg9 q0 q1 q2 f7 f8 f9)
    (row_trip d i arg2 harg2 arg3 harg3 arg4 harg4 arg5 harg5 arg6 harg6 arg7 harg7 arg8 harg8 arg9 harg9 arg10 harg10 arg11 harg11 arg12 arg13 v356_r0 v356_r1 v356_r2 v356_r3 q0 q1 q2 f7 f8 f9))
  iintro ⟨H7, H8, H9⟩
  isplitl [H7 H8 H9]
  · unfold rowInv
    isplitr
    · ipureintro; rfl
    isplitl [H7]; · iexact H7
    isplitl [H8]; · iexact H8
    iexact H9
  · iintro %a H; iexact H

/-- The four sums of a chunk whose input reads `X`, against weights that read `W0` and `W1`. -/
def chunk4 (X : S2x2x64x64.Idx → F .f32) (W0 W1 : S2x64x64.Idx → F .f32) : Fin 4 → FVec F S16 .f32 :=
  ![rowAcc X W0 0 128, rowAcc X W1 0 128, rowAcc X W0 1 128, rowAcc X W1 1 128]

/-- The state between two steps: `n` slots stored; the copy of the chunk at `o` under way into `b` on `sem`, at share `q` of the input; the other
    buffer `b'` and its semaphore idle, the input's other share `q'` at hand; the two masked weights at `f7`, `f8`. -/
def midSt (vals : ℕ → FVec F S16 .f32) (n : ℕ) (b b' : Memref sig .scVector .vmem S2x2x64x64 .f32) (sem sem' : DmaSems sig S_) (q q' : PosShare TreeShare)
    (o : Fin S64x1x64x64x64.rank → ℕ) (h : ∀ a, o a + S2x1x2x64x64.size a ≤ S64x1x64x64x64.size a)
    (fx : Buf (Elt F) (arg2.view.loc (thrV d i))) (f7 : Buf (Elt F) (arg7.view.loc (thrV d i))) (f8 : Buf (Elt F) (arg8.view.loc (thrV d i)))
    (O : CellTallies nD τ sig (HIx 1)) (W : Waits sig (HIx 1)) : sProp 𝕄 :=
  iprop((∃ f, ⌜PartOK vals n (arg11.view.read (Elt F) f)⌝ ∗ arg11.view.loc (thrV d i) ↦{fullShare} f)
    ∗ inFlight d i arg2 b sem o h q fx ∗ restX d i arg2 o h q fx
    ∗ (∃ f, b'.view.loc (thrV d i) ↦{fullShare} f) ∗ semVal (thrV d i, .dma sem'.sem) 0 ∗ (arg2.view.loc (thrV d i) ↦{q'} fx)
    ∗ (arg7.view.loc (thrV d i) ↦{fullShare} f7) ∗ (arg8.view.loc (thrV d i) ↦{fullShare} f8)
    ∗ Transfers.MayWaits (thrV d i) (none : HIx 1) O
    ∗ ∃ W', ⌜∀ p ∈ W', p ∈ W ∨ p.2 = none⌝ ∗ owes (thrV d i) O W')

theorem mid_spec {vals : ℕ → FVec F S16 .f32} {n : ℕ} (hn : n + 3 < 128) {o0 o1 o2 o3 : Fin S16x128.rank → ℕ}
    (e0 : o0 = ![n / 8, 16 * (n % 8)]) (e1 : o1 = ![(n + 1) / 8, 16 * ((n + 1) % 8)]) (e2 : o2 = ![(n + 2) / 8, 16 * ((n + 2) % 8)]) (e3 : o3 = ![(n + 3) / 8, 16 * ((n + 3) % 8)])
    (h0 : ∀ a, o0 a + S1x16.size a ≤ S16x128.size a) (h1 : ∀ a, o1 a + S1x16.size a ≤ S16x128.size a)
    (h2 : ∀ a, o2 a + S1x16.size a ≤ S16x128.size a) (h3 : ∀ a, o3 a + S1x16.size a ≤ S16x128.size a)
    (xw xe : Fin S64x1x64x64x64.rank → ℕ) (hw : ∀ a, xw a + S2x1x2x64x64.size a ≤ S64x1x64x64x64.size a) (he : ∀ a, xe a + S2x1x2x64x64.size a ≤ S64x1x64x64x64.size a)
    {a0 a1 a2 a3 : FVec F S16 .f32} (v0 : a0 = vals n) (v1 : a1 = vals (n + 1)) (v2 : a2 = vals (n + 2)) (v3 : a3 = vals (n + 3))
    (q q' : PosShare TreeShare) (fx : Buf (Elt F) (arg2.view.loc (thrV d i))) (f7 : Buf (Elt F) (arg7.view.loc (thrV d i))) (f8 : Buf (Elt F) (arg8.view.loc (thrV d i)))
    (O : CellTallies nD τ sig (HIx 1)) (W : Waits sig (HIx 1)) :
    midSt d i arg2 arg7 arg8 arg11 vals n arg9 arg10 arg12 arg13 q q' xw hw fx f7 f8 O W
      ⊢ WP d i (mid i arg2 harg2 arg3 harg3 arg4 harg4 arg5 harg5 arg6 harg6 arg7 harg7 arg8 harg8 arg9 harg9 arg10 harg10 arg11 harg11 arg12 arg13 v356_r0 v356_r1 v356_r2 v356_r3
            o0 o1 o2 o3 h0 h1 h2 h3 xw xe hw he a0 a1 a2 a3)
          fun r => iprop(⌜r = ⟨chunk4 ((xChunk arg2 xw hw).view.read (Elt F) fx) (arg7.view.read (Elt F) f7) (arg8.view.read (Elt F) f8) 0,
                chunk4 ((xChunk arg2 xw hw).view.read (Elt F) fx) (arg7.view.read (Elt F) f7) (arg8.view.read (Elt F) f8) 1,
                chunk4 ((xChunk arg2 xw hw).view.read (Elt F) fx) (arg7.view.read (Elt F) f7) (arg8.view.read (Elt F) f8) 2,
                chunk4 ((xChunk arg2 xw hw).view.read (Elt F) fx) (arg7.view.read (Elt F) f7) (arg8.view.read (Elt F) f8) 3⟩⌝
            ∗ midSt d i arg2 arg7 arg8 arg11 vals (n + 4) arg10 arg9 arg13 arg12 q' q xe he fx f7 f8 O W) := by
  unfold midSt mid
  iintro ⟨Hp, HF, Hr, Hb', Hs', Hx', H7, H8, #Hmw, %W', %hW', HO⟩
  unfold WP
  simp only [wp_bind]
  iapply (wp_wand_r frame _ _)
  isplitl [Hp]
  · iapply (put_spec d i arg11 (by omega) e0 h0 v0) $$ Hp
  iintro %_ Hp
  iapply (wp_wand_r frame _ _)
  isplitl [Hp]
  · iapply (put_spec d i arg11 (by omega) e1 h1 v1) $$ Hp
  iintro %_ Hp
  iapply (wp_wand_r frame _ _)
  isplitl [Hp]
  · iapply (put_spec d i arg11 (by omega) e2 h2 v2) $$ Hp
  iintro %_ Hp
  iapply (wp_wand_r frame _ _)
  isplitl [Hp]
  · iapply (put_spec d i arg11 (by omega) e3 h3 v3) $$ Hp
  iintro %_ Hp
  iapply (wp_wand_r frame _ _)
  isplitl [HF Hr HO]
  · iapply (collect_spec d i arg2 arg9 harg9 arg12 xw hw q fx O W')
    isplitl [HF]; · iexact HF
    isplitl [Hr]; · iexact Hr
    isplitr; · iexact Hmw
    iexact HO
  iintro %_ ⟨Hx, ⟨%f9, %hf9, H9⟩, Hs, HO⟩
  iapply (wp_wand_r frame _ _)
  isplitl [Hx' Hb' Hs']
  · iapply (issue_spec d i arg2 arg10 harg10 arg13 xe he q' fx)
    isplitl [Hx']; · iexact Hx'
    isplitl [Hb']; · iexact Hb'
    iexact Hs'
  iintro %_ ⟨HF, Hr⟩
  iapply (wp_wand_r frame _ _)
  isplitl [H7 H8 H9]
  · iapply (row_loop d i arg2 harg2 arg3 harg3 arg4 harg4 arg5 harg5 arg6 harg6 arg7 harg7 arg8 harg8 arg9 harg9 arg10 harg10 arg11 harg11 arg12 arg13 v356_r0 v356_r1 v356_r2 v356_r3
      fullShare fullShare fullShare f7 f8 f9)
    isplitl [H7]; · iexact H7
    isplitl [H8]; · iexact H8
    iexact H9
  iintro %acc HI
  unfold rowInv
  icases HI with ⟨%hacc, H7, H8, H9⟩
  subst hacc
  rw [wp_pure]
  imodintro
  isplitr
  · ipureintro; rw [hf9]; rfl
  isplitl [Hp]; · iexact Hp
  isplitl [HF]; · iexact HF
  isplitl [Hr]; · iexact Hr
  isplitl [H9]; · iexists _; iexact H9
  isplitl [Hs]; · iexact Hs
  isplitl [Hx]; · iexact Hx
  isplitl [H7]; · iexact H7
  isplitl [H8]; · iexact H8
  isplitr; · iexact Hmw
  iexists (insert (SemLoc.dma arg12.sem, none) W')
  isplitr
  · ipureintro
    intro p hp
    rcases Finset.mem_insert.mp hp with hp | hp
    · exact .inr (by rw [hp])
    · exact hW' p hp
  · iexact HO

end Cert.KernelIdeal.Tile
end
-- ==== Proof.Ideal.Fold.lean ====
/-
  THE MASK LOOP OF A TILE.  Before its chunks a tile multiplies its two weight planes pairs (2x64x64 each) by its mask planes, in place, sixteen
  lanes at a time, row by row.  After `n` groups the first `16 * n` entries are products and the others as they were (`FoldOK`); after
  the loop each buffer holds the whole product.
-/
module

public import proofs.«01_k».proof.Proof.Ideal.Mid

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first `16 * n` entries, in row-major order, are products of `W` and `M`; the others are `W`'s. -/
def FoldOK (W M : S2x64x64.Idx → F .f32) (n : ℕ) (g : S2x64x64.Idx → F .f32) : Prop :=
  ∀ j : S2x64x64.Idx, g j = if ((j 0).val * 64 + (j 1).val) * 64 + (j 2).val < 16 * n then mulf (F := F) (s := S2x64x64) W M j else W j

theorem FoldOK.zero (W M : S2x64x64.Idx → F .f32) : FoldOK W M 0 W := fun j => by simp

theorem FoldOK.all {W M g : S2x64x64.Idx → F .f32} (h : FoldOK W M 512 g) : g = mulf (F := F) (s := S2x64x64) W M := by
  funext j
  have h0 : (j 0).val < 2 := (j 0).isLt
  have h1 : (j 1).val < 64 := (j 1).isLt
  have h2 : (j 2).val < 64 := (j 2).isLt
  rw [h j, if_pos (by omega)]

/-- What a group's store writes: the weight's lanes times the mask's. -/
def foldPay (m w : Vec F S1x1x16 .f32) : FVec F S1x1x16 .f32 :=
  shapeCast S1x1x16 (mulf (F := F) (φ := .f32) (shapeCast S16 w shapeCasts_S1x1x16_S16) (shapeCast S16 m shapeCasts_S1x1x16_S16)) shapeCasts_S16_S1x1x16

theorem foldPay_apply (m w : Vec F S1x1x16 .f32) (l : S16.Idx) :
    foldPay m w (ix3 0 0 (l 0)) = mulf (F := F) (φ := .f32) (shapeCast S16 w shapeCasts_S1x1x16_S16) (shapeCast S16 m shapeCasts_S1x1x16_S16) l := by
  unfold foldPay
  refine shapeCast_apply _ shapeCasts_S16_S1x1x16 _ l ?_
  rw [Shape.rowMajor_val_three, Shape.rowMajor_val_one]; simp

/-- One group more. -/
theorem FoldOK.put {v6 v : View sig .scVector .vmem S2x64x64 .f32} {W : S2x64x64.Idx → F .f32} {f6 : v6.ty.Contents (Elt F)} {f : v.ty.Contents (Elt F)} {n : ℕ}
    (h : FoldOK W (v6.read (Elt F) f6) n (v.read (Elt F) f)) (hn : n < 512) {o : Fin S2x64x64.rank → ℕ} (ho : o = ![n / 4 / 64, n / 4 % 64, 16 * (n % 4)])
    (hi : ∀ a, o a + S1x1x16.size a ≤ S2x64x64.size a) :
    FoldOK W (v6.read (Elt F) f6) (n + 1) (v.read (Elt F) ((v.slice (Rect.unit (s := S2x64x64) o S1x1x16.size hi)).write (Elt F) f
      (foldPay (v6.readAt (Elt F) (Rect.unit (s := S2x64x64) o S1x1x16.size hi).toLoadRect f6) (v.readAt (Elt F) (Rect.unit (s := S2x64x64) o S1x1x16.size hi).toLoadRect f))
      Finset.univ)) := by
  intro j
  have h0 : (j 0).val < 2 := (j 0).isLt
  have h1 : (j 1).val < 64 := (j 1).isLt
  have h2 : (j 2).val < 64 := (j 2).isLt
  by_cases hj : ((j 0).val * 64 + (j 1).val) * 64 + (j 2).val < 16 * n ∨ 16 * (n + 1) ≤ ((j 0).val * 64 + (j 1).val) * 64 + (j 2).val
  · rw [View.read_slice_write_of_not_mem, h j]
    · rcases hj with hj | hj
      · rw [if_pos hj, if_pos (by omega)]
      · rw [if_neg (by omega), if_neg (by omega)]
    · rw [Rect.map_emb_univ]
      intro hm
      obtain ⟨x, hx⟩ := LoadRect.exists_idx_of_mem _ hm
      subst ho
      have e0 := congrArg Fin.val (congrFun hx 0)
      have e1 := congrArg Fin.val (congrFun hx 1)
      have e2 := congrArg Fin.val (congrFun hx 2)
      have hx0 : (x 0).val < 1 := (x 0).isLt
      have hx1 : (x 1).val < 1 := (x 1).isLt
      have hx2 : (x 2).val < 16 := (x 2).isLt
      replace e0 : n / 4 / 64 + 1 * (x 0).val = (j 0).val := e0
      replace e1 : n / 4 % 64 + 1 * (x 1).val = (j 1).val := e1
      replace e2 : 16 * (n % 4) + 1 * (x 2).val = (j 2).val := e2
      omega
  · rw [if_pos (by omega)]
    have hl : (j 2).val - 16 * (n % 4) < 16 := by omega
    obtain ⟨l, el⟩ : ∃ l : S16.Idx, (l 0).val = (j 2).val - 16 * (n % 4) := ⟨ix1 ⟨_, hl⟩, rfl⟩
    have e : j = (Rect.unit (s := S2x64x64) o S1x1x16.size hi).emb (ix3 0 0 (l 0)) := by
      subst ho
      funext a; apply Fin.ext
      match a with
      | ⟨0, _⟩ => show (j 0).val = n / 4 / 64 + 1 * 0; omega
      | ⟨1, _⟩ => show (j 1).val = n / 4 % 64 + 1 * 0; omega
      | ⟨2, _⟩ => show (j 2).val = 16 * (n % 4) + 1 * (l 0).val; omega
    rw [e, View.read_slice_write_emb _ _ _ (Finset.mem_univ _), foldPay_apply,
      load3 (F := F) (v := v) f (t := n / 4) (g := n % 4) ho (by omega) (by omega) hi,
      load3 (F := F) (v := v6) f6 (t := n / 4) (g := n % 4) ho (by omega) (by omega) hi, ← e]
    have ej : (ix3 ⟨n / 4 / 64 % 2, Nat.mod_lt _ (by decide)⟩ ⟨n / 4 % 64, Nat.mod_lt _ (by decide)⟩ ⟨(16 * (n % 4) + (l 0).val) % 64, Nat.mod_lt _ (by decide)⟩ : S2x64x64.Idx) = j := by
      funext a; apply Fin.ext
      match a with
      | ⟨0, _⟩ => show n / 4 / 64 % 2 = (j 0).val; omega
      | ⟨1, _⟩ => show n / 4 % 64 = (j 1).val; omega
      | ⟨2, _⟩ => show (16 * (n % 4) + (l 0).val) % 64 = (j 2).val; omega
    have ew : wlane (v.read (Elt F) f) (n / 4) (n % 4) l = W j := by
      unfold wlane; rw [ej, h j, if_neg (by omega)]
    have em : wlane (v6.read (Elt F) f6) (n / 4) (n % 4) l = v6.read (Elt F) f6 j := by
      unfold wlane; rw [ej]
    show FloatOps.mulf _ _ = FloatOps.mulf _ _
    rw [ew, em]

theorem off4 : ∀ k : Fin k0_t1_loop.trips, k0_off4 k = ![(4 * k.val + 0) / 4 / 64, (4 * k.val + 0) / 4 % 64, 16 * ((4 * k.val + 0) % 4)] := by decide +kernel
theorem off5 : ∀ k : Fin k0_t1_loop.trips, k0_off5 k = ![(4 * k.val + 1) / 4 / 64, (4 * k.val + 1) / 4 % 64, 16 * ((4 * k.val + 1) % 4)] := by decide +kernel
theorem off6 : ∀ k : Fin k0_t1_loop.trips, k0_off6 k = ![(4 * k.val + 2) / 4 / 64, (4 * k.val + 2) / 4 % 64, 16 * ((4 * k.val + 2) % 4)] := by decide +kernel
theorem off7 : ∀ k : Fin k0_t1_loop.trips, k0_off7 k = ![(4 * k.val + 3) / 4 / 64, (4 * k.val + 3) / 4 % 64, 16 * ((4 * k.val + 3) % 4)] := by decide +kernel
theorem foldTrips_lt (k : Fin k0_t1_loop.trips) : k.val < 128 := k.isLt

variable (d : Dev nD) (i : grid0.Coords)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- What the loop holds after `t` rows. -/
def foldInv (W0 W1 : S2x64x64.Idx → F .f32) (f6 : Buf (Elt F) (arg6.view.loc (thrV d i))) (t : ℕ) (_ : BitVec 32) : sProp 𝕄 :=
  iprop((arg6.view.loc (thrV d i) ↦{fullShare} f6)
    ∗ (∃ f, ⌜FoldOK W0 (arg6.view.read (Elt F) f6) (4 * t) (arg7.view.read (Elt F) f)⌝ ∗ arg7.view.loc (thrV d i) ↦{fullShare} f)
    ∗ (∃ f, ⌜FoldOK W1 (arg6.view.read (Elt F) f6) (4 * t) (arg8.view.read (Elt F) f)⌝ ∗ arg8.view.loc (thrV d i) ↦{fullShare} f))

/-- One group of a trip: the mask's lanes, each weight's lanes (read twice; the second reading is not used), each product stored over the weight's lanes. -/
def foldOne (o : Fin S2x64x64.rank → ℕ) (h : ∀ a, o a + S1x1x16.size a ≤ S2x64x64.size a) :
    Prog (TpuEff nD τ sig (Elt F) Λ₀ (.scVector ((i 0).castLE hcore0) ((i 1).castLE hsub0))) PUnit := do
  let m : Vec F S1x1x16 .f32 ← Prog.lift (.load arg6 (Rect.unit (s := S2x64x64) o S1x1x16.size h).toLoadRect (View.loadsAt_vmem h_S1x1x16))
  let w : Vec F S1x1x16 .f32 ← Prog.lift (.load arg7 (Rect.unit (s := S2x64x64) o S1x1x16.size h).toLoadRect (View.loadsAt_vmem h_S1x1x16))
  let _w : Vec F S1x1x16 .f32 ← Prog.lift (.load arg7 (Rect.unit (s := S2x64x64) o S1x1x16.size h).toLoadRect (View.loadsAt_vmem h_S1x1x16))
  Prog.lift (.store arg7 (Rect.unit (s := S2x64x64) o S1x1x16.size h) (foldPay m w) Finset.univ (View.stores_vmem_bits_univ h_S1x1x16 rfl) (.inl rfl))
  let w' : Vec F S1x1x16 .f32 ← Prog.lift (.load arg8 (Rect.unit (s := S2x64x64) o S1x1x16.size h).toLoadRect (View.loadsAt_vmem h_S1x1x16))
  let _w' : Vec F S1x1x16 .f32 ← Prog.lift (.load arg8 (Rect.unit (s := S2x64x64) o S1x1x16.size h).toLoadRect (View.loadsAt_vmem h_S1x1x16))
  Prog.lift (.store arg8 (Rect.unit (s := S2x64x64) o S1x1x16.size h) (foldPay m w') Finset.univ (View.stores_vmem_bits_univ h_S1x1x16 rfl) (.inl rfl))

set_option maxRecDepth 65536 in
/-- A trip is its four groups. -/
theorem t1_body_eq (k : Fin k0_t1_loop.trips) (a : BitVec 32) :
    k0_t1_body i arg2 harg2 arg3 harg3 arg4 harg4 arg5 harg5 arg6 harg6 arg7 harg7 arg8 harg8 arg9 harg9 arg10 harg10 arg11 harg11 arg12 arg13 v356_r0 v356_r1 v356_r2 v356_r3 k a
      = (do foldOne i arg6 arg7 arg8 (k0_off4 k) (k0_off4_inb k)
            foldOne i arg6 arg7 arg8 (k0_off5 k) (k0_off5_inb k)
            foldOne i arg6 arg7 arg8 (k0_off6 k) (k0_off6_inb k)
            foldOne i arg6 arg7 arg8 (k0_off7 k) (k0_off7_inb k)
            pure 0#32 : Prog (TpuEff nD τ sig (Elt F) Λ₀ (.scVector ((i 0).castLE hcore0) ((i 1).castLE hsub0))) (BitVec 32)) := rfl

/-- What is held after `n` groups. -/
def foldSt (W0 W1 : S2x64x64.Idx → F .f32) (f6 : Buf (Elt F) (arg6.view.loc (thrV d i))) (n : ℕ) : sProp 𝕄 :=
  iprop((arg6.view.loc (thrV d i) ↦{fullShare} f6)
    ∗ (∃ f, ⌜FoldOK W0 (arg6.view.read (Elt F) f6) n (arg7.view.read (Elt F) f)⌝ ∗ arg7.view.loc (thrV d i) ↦{fullShare} f)
    ∗ (∃ f, ⌜FoldOK W1 (arg6.view.read (Elt F) f6) n (arg8.view.read (Elt F) f)⌝ ∗ arg8.view.loc (thrV d i) ↦{fullShare} f))

theorem foldOne_spec (W0 W1 : S2x64x64.Idx → F .f32) (f6 : Buf (Elt F) (arg6.view.loc (thrV d i))) {n : ℕ} (hn : n < 512) {o : Fin S2x64x64.rank → ℕ}
    (ho : o = ![n / 4 / 64, n / 4 % 64, 16 * (n % 4)]) (h : ∀ a, o a + S1x1x16.size a ≤ S2x64x64.size a) :
    foldSt d i arg6 arg7 arg8 W0 W1 f6 n ⊢ WP d i (foldOne i arg6 arg7 arg8 o h) fun _ => foldSt d i arg6 arg7 arg8 W0 W1 f6 (n + 1) := by
  unfold foldSt foldOne WP
  iintro ⟨H6, ⟨%f7, %h7, H7⟩, ⟨%f8, %h8, H8⟩⟩
  sl_exec
  sl_step
  isplitl [H6]; · iexact H6
  isplitl [H7]
  · iexists _
    isplitr
    · ipureintro; exact h7.put hn ho h
    · iexact H7
  · iexists _
    isplitr
    · ipureintro; exact h8.put hn ho h
    · iexact H8

theorem fold_trip (W0 W1 : S2x64x64.Idx → F .f32) (f6 : Buf (Elt F) (arg6.view.loc (thrV d i))) (k : Fin k0_t1_loop.trips) (a : BitVec 32) :
    foldInv d i arg6 arg7 arg8 W0 W1 f6 k.val a
      ⊢ wp frame (wpE (defs₀ (F := F)) Variants.none (thrV d i) none) Set.univ
          (k0_t1_body i arg2 harg2 arg3 harg3 arg4 harg4 arg5 harg5 arg6 harg6 arg7 harg7 arg8 harg8 arg9 harg9 arg10 harg10 arg11 harg11 arg12 arg13 v356_r0 v356_r1 v356_r2 v356_r3 k a)
          (foldInv d i arg6 arg7 arg8 W0 W1 f6 (k.val + 1)) := by
  have ht := foldTrips_lt k
  rw [t1_body_eq]
  simp only [wp_bind, wp_pure]
  refine BIBase.Entails.trans ?_ ((foldOne_spec d i arg6 arg7 arg8 W0 W1 f6 (n := 4 * k.val + 0) (by omega) (off4 k) (k0_off4_inb k)).trans (wp_mono frame _ _ fun _ => ?_))
  · unfold foldInv foldSt; exact .rfl
  refine (foldOne_spec d i arg6 arg7 arg8 W0 W1 f6 (n := 4 * k.val + 1) (by omega) (off5 k) (k0_off5_inb k)).trans (wp_mono frame _ _ fun _ => ?_)
  refine (foldOne_spec d i arg6 arg7 arg8 W0 W1 f6 (n := 4 * k.val + 2) (by omega) (off6 k) (k0_off6_inb k)).trans (wp_mono frame _ _ fun _ => ?_)
  refine (foldOne_spec d i arg6 arg7 arg8 W0 W1 f6 (n := 4 * k.val + 3) (by omega) (off7 k) (k0_off7_inb k)).trans (wp_mono frame _ _ fun _ => ?_)
  iintro H
  imodintro
  unfold foldInv foldSt
  iexact H

/-- The whole loop: each weight buffer times the mask. -/
theorem fold_loop (W0 W1 : S2x64x64.Idx → F .f32) (f6 : Buf (Elt F) (arg6.view.loc (thrV d i))) :
    iprop((arg6.view.loc (thrV d i) ↦{fullShare} f6)
        ∗ (∃ f, ⌜arg7.view.read (Elt F) f = W0⌝ ∗ arg7.view.loc (thrV d i) ↦{fullShare} f)
        ∗ (∃ f, ⌜arg8.view.read (Elt F) f = W1⌝ ∗ arg8.view.loc (thrV d i) ↦{fullShare} f))
      ⊢ WP d i (Scf.Loop.for k0_t1_loop k0_t1_ok 0#32
          (k0_t1_body i arg2 harg2 arg3 harg3 arg4 harg4 arg5 harg5 arg6 harg6 arg7 harg7 arg8 harg8 arg9 harg9 arg10 harg10 arg11 harg11 arg12 arg13 v356_r0 v356_r1 v356_r2 v356_r3))
          fun _ => iprop((arg6.view.loc (thrV d i) ↦{fullShare} f6)
            ∗ (∃ f, ⌜arg7.view.read (Elt F) f = mulf (F := F) (s := S2x64x64) W0 (arg6.view.read (Elt F) f6)⌝ ∗ arg7.view.loc (thrV d i) ↦{fullShare} f)
            ∗ (∃ f, ⌜arg8.view.read (Elt F) f = mulf (F := F) (s := S2x64x64) W1 (arg6.view.read (Elt F) f6)⌝ ∗ arg8.view.loc (thrV d i) ↦{fullShare} f)) := by
  refine BIBase.Entails.trans ?_ (Scf.wp_for frame (wpE (defs₀ (F := F)) Variants.none (thrV d i) none) Set.univ _ _ _ k0_t1_ok (0#32) _
    (foldInv d i arg6 arg7 arg8 W0 W1 f6)
    (fold_trip d i arg2 harg2 arg3 harg3 arg4 harg4 arg5 harg5 arg6 harg6 arg7 harg7 arg8 harg8 arg9 harg9 arg10 harg10 arg11 harg11 arg12 arg13 v356_r0 v356_r1 v356_r2 v356_r3 W0 W1 f6))
  iintro ⟨H6, ⟨%f7, %h7, H7⟩, ⟨%f8, %h8, H8⟩⟩
  isplitl [H6 H7 H8]
  · unfold foldInv
    isplitl [H6]; · iexact H6
    isplitl [H7]
    · iexists f7
      isplitr; · ipureintro; rw [h7]; exact FoldOK.zero _ _
      iexact H7
    · iexists f8
      isplitr; · ipureintro; rw [h8]; exact FoldOK.zero _ _
      iexact H8
  · iintro %a H
    unfold foldInv
    icases H with ⟨H6, ⟨%g7, %e7, H7⟩, ⟨%g8, %e8, H8⟩⟩
    isplitl [H6]; · iexact H6
    isplitl [H7]
    · iexists g7
      isplitr; · ipureintro; exact FoldOK.all e7
      iexact H7
    · iexists g8
      isplitr; · ipureintro; exact FoldOK.all e8
      iexact H8

end Cert.KernelIdeal.Tile
end
-- ==== Proof.Ideal.Tile.lean ====
/-
  A TILE'S TASK.  Tile `p` of the 32 takes the depth planes `2p` and `2p + 1` of the mask, the two weights and the batch members from 38 on:
  it copies in the mask and the weights, masks the weights, then goes through the 13 chunks of two members each, and at last copies its part
  array out to row `p` of the shared result.  What the first 52 slots of that row hold is `tileVals`: slot `4c + 2b + o` has the sixteen lane
  sums of member `38 + 2c + b` against weight `o`.
-/
module

public import proofs.«01_k».proof.Proof.Ideal.Fold

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## The values -/

/-- The chunk `c` of the input that tile `p` reads: members `38 + 2c`, `39 + 2c`, planes `2p`, `2p + 1`. -/
def chunkOf {α : Type} (x : S64x1x64x64x64.Idx → α) (p c : ℕ) : S2x2x64x64.Idx → α := fun j =>
  x (ix5 ⟨(38 + 2 * c + (j 0).val) % 64, Nat.mod_lt _ (by decide)⟩ 0 ⟨(2 * p + (j 1).val) % 64, Nat.mod_lt _ (by decide)⟩ (j 2) (j 3))

/-- The planes `2p`, `2p + 1` of the mask. -/
def maskOf {α : Type} (m : S1x1x64x64x64.Idx → α) (p : ℕ) : S2x64x64.Idx → α := fun j =>
  m (ix5 0 0 ⟨(2 * p + (j 0).val) % 64, Nat.mod_lt _ (by decide)⟩ (j 1) (j 2))

/-- The planes `2p`, `2p + 1` of weight `o`. -/
def weightOf {α : Type} (w : S2x1x64x64x64.Idx → α) (o : Fin 2) (p : ℕ) : S2x64x64.Idx → α := fun j =>
  w (ix5 o 0 ⟨(2 * p + (j 0).val) % 64, Nat.mod_lt _ (by decide)⟩ (j 1) (j 2))

/-- Weight `o`'s planes times the mask's. -/
def maskedW (m : S1x1x64x64x64.Idx → F .f32) (w : S2x1x64x64x64.Idx → F .f32) (o : Fin 2) (p : ℕ) : S2x64x64.Idx → F .f32 :=
  mulf (F := F) (s := S2x64x64) (weightOf w o p) (maskOf m p)

/-- What slot `s` of tile `p` holds. -/
def tileVals (x : S64x1x64x64x64.Idx → F .f32) (m : S1x1x64x64x64.Idx → F .f32) (w : S2x1x64x64x64.Idx → F .f32) (p s : ℕ) : FVec F S16 .f32 :=
  chunk4 (chunkOf x p (s / 4)) (maskedW m w 0 p) (maskedW m w 1 p) ⟨s % 4, Nat.mod_lt _ (by decide)⟩

/-- The number of the tile at coordinates `i`. -/
abbrev wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-! ## What the copied slices read -/

/-- The mask's planes as the body slices them. -/
abbrev mSlice (o : Fin S1x1x64x64x64.rank → ℕ) (h : ∀ a, o a + S1x1x2x64x64.size a ≤ S1x1x64x64x64.size a) : Memref sig .scVector .hbm S2x64x64 .f32 :=
  (arg3.slice (Rect.unit (s := S1x1x64x64x64) o S1x1x2x64x64.size h) (fun _ => rfl)).squeeze S2x64x64 squeezes_S1x1x2x64x64_S2x64x64

/-- A weight's planes as the body slices them. -/
abbrev wSlice (o : Fin S2x1x64x64x64.rank → ℕ) (h : ∀ a, o a + S1x1x2x64x64.size a ≤ S2x1x64x64x64.size a) : Memref sig .scVector .hbm S2x64x64 .f32 :=
  (arg4.slice (Rect.unit (s := S2x1x64x64x64) o S1x1x2x64x64.size h) (fun _ => rfl)).squeeze S2x64x64 squeezes_S1x1x2x64x64_S2x64x64

/-- The tile's row of the shared result as the body slices it. -/
abbrev oSlice : Memref sig .scVector .hbm S16x128 .f32 :=
  (arg5.slice (Rect.unit (s := S32x16x128) (k0_off177 i) S1x16x128.size (k0_off177_inb i)) (fun _ => rfl)).squeeze S16x128 squeezes_S1x16x128_S16x128

omit [FloatOps F] in
theorem xChunk_read (fx : Buf (Elt F) (arg2.view.loc (thrV d i))) {o : Fin S64x1x64x64x64.rank → ℕ} {p c : ℕ} (ho : o = ![38 + 2 * c, 0, 2 * p, 0, 0])
    (hc : c < 13) (hp : p < 32) (h : ∀ a, o a + S2x1x2x64x64.size a ≤ S64x1x64x64x64.size a) :
    (xChunk arg2 o h).view.read (Elt F) fx = chunkOf (arg2.view.read (Elt F) fx) p c := by
  subst ho
  funext j
  have h0 : (j 0).val < 2 := (j 0).isLt
  have h1 : (j 1).val < 2 := (j 1).isLt
  have hsc : S2x1x2x64x64.ShapeCasts S2x2x64x64 := by decide
  refine (congrFun (Memref.read_squeeze_slice arg2 _ (fun _ => rfl) squeezes_S2x1x2x64x64_S2x2x64x64 hsc fx) j).trans ?_
  refine (shapeCast_apply _ hsc j (ix5 (j 0) 0 (j 1) (j 2) (j 3)) ?_).trans ?_
  · rw [Shape.rowMajor_val_five, Shape.rowMajor_val_four]; simp
  · rw [View.readAt_apply]; unfold chunkOf; congr 1
    funext a; apply Fin.ext; rw [LoadRect.idx_apply]
    match a with
    | ⟨0, _⟩ => show 38 + 2 * c + 1 * (j 0).val = (38 + 2 * c + (j 0).val) % 64; omega
    | ⟨1, _⟩ => rfl
    | ⟨2, _⟩ => show 2 * p + 1 * (j 1).val = (2 * p + (j 1).val) % 64; omega
    | ⟨3, _⟩ => show 0 + 1 * (j 2).val = (j 2).val; omega
    | ⟨4, _⟩ => show 0 + 1 * (j 3).val = (j 3).val; omega

omit [FloatOps F] in
theorem mSlice_read (fm : Buf (Elt F) (arg3.view.loc (thrV d i))) {o : Fin S1x1x64x64x64.rank → ℕ} {p : ℕ} (ho : o = ![0, 0, 2 * p, 0, 0])
    (hp : p < 32) (h : ∀ a, o a + S1x1x2x64x64.size a ≤ S1x1x64x64x64.size a) :
    (mSlice arg3 o h).view.read (Elt F) fm = maskOf (arg3.view.read (Elt F) fm) p := by
  subst ho
  funext j
  have h0 : (j 0).val < 2 := (j 0).isLt
  have hsc : S1x1x2x64x64.ShapeCasts S2x64x64 := by decide
  refine (congrFun (Memref.read_squeeze_slice arg3 _ (fun _ => rfl) squeezes_S1x1x2x64x64_S2x64x64 hsc fm) j).trans ?_
  refine (shapeCast_apply _ hsc j (ix5 0 0 (j 0) (j 1) (j 2)) ?_).trans ?_
  · rw [Shape.rowMajor_val_five, Shape.rowMajor_val_three]; simp
  · rw [View.readAt_apply]; unfold maskOf; congr 1
    funext a; apply Fin.ext; rw [LoadRect.idx_apply]
    match a with
    | ⟨0, _⟩ => rfl
    | ⟨1, _⟩ => rfl
    | ⟨2, _⟩ => show 2 * p + 1 * (j 0).val = (2 * p + (j 0).val) % 64; omega
    | ⟨3, _⟩ => show 0 + 1 * (j 1).val = (j 1).val; omega
    | ⟨4, _⟩ => show 0 + 1 * (j 2).val = (j 2).val; omega

omit [FloatOps F] in
theorem wSlice_read (fw : Buf (Elt F) (arg4.view.loc (thrV d i))) {o : Fin S2x1x64x64x64.rank → ℕ} {p : ℕ} {u : Fin 2} (ho : o = ![u.val, 0, 2 * p, 0, 0])
    (hp : p < 32) (h : ∀ a, o a + S1x1x2x64x64.size a ≤ S2x1x64x64x64.size a) :
    (wSlice arg4 o h).view.read (Elt F) fw = weightOf (arg4.view.read (Elt F) fw) u p := by
  subst ho
  funext j
  have h0 : (j 0).val < 2 := (j 0).isLt
  have hsc : S1x1x2x64x64.ShapeCasts S2x64x64 := by decide
  refine (congrFun (Memref.read_squeeze_slice arg4 _ (fun _ => rfl) squeezes_S1x1x2x64x64_S2x64x64 hsc fw) j).trans ?_
  refine (shapeCast_apply _ hsc j (ix5 0 0 (j 0) (j 1) (j 2)) ?_).trans ?_
  · rw [Shape.rowMajor_val_five, Shape.rowMajor_val_three]; simp
  · rw [View.readAt_apply]; unfold weightOf; congr 1
    funext a; apply Fin.ext; rw [LoadRect.idx_apply]
    match a with
    | ⟨0, _⟩ => show u.val + 1 * 0 = u.val; omega
    | ⟨1, _⟩ => rfl
    | ⟨2, _⟩ => show 2 * p + 1 * (j 0).val = (2 * p + (j 0).val) % 64; omega
    | ⟨3, _⟩ => show 0 + 1 * (j 1).val = (j 1).val; omega
    | ⟨4, _⟩ => show 0 + 1 * (j 2).val = (j 2).val; omega

/-! ## A copy and its wait -/

/-- A copy between any two views: under way once started. -/
theorem issueV {sp sp' : Space} {s : Shape} (c : Memref sig .scVector sp s .f32) (b : Memref sig .scVector sp' s .f32) (sem : DmaSems sig S_)
    (hN : 0 < b.view.dmaCredit) {Sd : Finset (Idx (b.view.loc (thrV d i)))} (hSd : b.view.set ⊆ Sd) (q : PosShare TreeShare)
    (fs : Buf (Elt F) (c.view.loc (thrV d i))) (fd : Buf (Elt F) (b.view.loc (thrV d i))) (hsrc : c.view.WordExact) (hdst : b.view.WordExact)
    (hsem : (DmaTarget.here b : DmaTarget nD τ sig (.scVector ((i 0).castLE hcore0) ((i 1).castLE hsub0)) sp' s .f32).Typed sp (.dma sem.sem)) :
    iprop((c.view.loc (thrV d i) ↦[c.view.set]{q} fs) ∗ (b.view.loc (thrV d i) ↦[Sd]{fullShare} fd) ∗ semVal (thrV d i, .dma sem.sem) 0)
      ⊢ WP d i (Prog.lift (.enqueueDma c (.here b) (.dma sem.sem) hsrc hdst hsem))
          fun _ => Transfers.Flight countersEmb (thrV d i) (.dma sem.sem) (none : HIx 1) b.view.dmaCredit
            iprop((b.view.loc (thrV d i) ↦[Sd]{fullShare} b.view.write (Elt F) fd (c.view.read (Elt F) fs) Finset.univ)
              ∗ (c.view.loc (thrV d i) ↦[c.view.set]{q} fs)) := by
  iintro ⟨Hx, Hb, Hs⟩
  iapply (Transfers.wp_dmaLocal countersEmb Variants.none (thrV d i) none (none : HIx 1) b.view.dmaCredit rfl hN hSd) $$ [Hx Hb Hs]
  · isplitl [Hx]; · iexact Hx
    isplitl [Hb]; · iexact Hb
    iexact Hs
  iintro HF
  rw [wp_ret]
  imodintro
  iexact HF

/-- Its wait: what it delivers, the semaphore back at zero. -/
theorem collectV {sp sp' : Space} {s : Shape} (c : Memref sig .scVector sp s .f32) (b : Memref sig .scVector sp' s .f32) (sem : DmaSems sig S_)
    (hsrc : c.view.WordExact) (hdst : b.view.WordExact) (D : sProp 𝕄) (O : CellTallies nD τ sig (HIx 1)) (W : Waits sig (HIx 1)) :
    iprop(Transfers.Flight countersEmb (thrV d i) (.dma sem.sem) (none : HIx 1) b.view.dmaCredit D ∗ Transfers.MayWaits (thrV d i) (none : HIx 1) O ∗ owes (thrV d i) O W)
      ⊢ WP d i (Prog.lift (.waitDma2 sem.sem c b hsrc hdst))
          fun _ => iprop(D ∗ semVal (thrV d i, .dma sem.sem) 0 ∗ owes (thrV d i) O (insert (SemLoc.dma sem.sem, none) W)) := by
  iintro ⟨HF, Hmw, HO⟩
  ihave Hm := (Transfers.MayWaits.elim (SemLoc.dma sem.sem)) $$ Hmw
  iapply (Transfers.wp_waitLocalO countersEmb Variants.none (thrV d i) none (none : HIx 1) rfl) $$ [HF HO Hm]
  · isplitl [HF]; · iexact HF
    isplitl [HO]; · iexact HO
    iexact Hm
  iintro H
  rw [wp_ret]
  imodintro
  iexact H

/-- What a thread owes and has waited for, all its waits being of its own copies. -/
def owesN (O : CellTallies nD τ sig (HIx 1)) (W : Waits sig (HIx 1)) : sProp 𝕄 :=
  iprop(∃ W', ⌜∀ p ∈ W', p ∈ W ∨ p.2 = none⌝ ∗ owes (thrV d i) O W')

/-- A copy of a slice `c` of an array into a buffer of the tile's, waited for at once; the array's share comes back. -/
theorem fetch {s : Shape} (c : Memref sig .scVector .hbm s .f32) (b : Memref sig .scVector .vmem s .f32) (sem : DmaSems sig S_)
    (hN : 0 < b.view.dmaCredit) (q : PosShare TreeShare) (fs : Buf (Elt F) (c.view.loc (thrV d i)))
    (hsrc : c.view.WordExact) (hdst : b.view.WordExact) (hsem : (DmaTarget.here b : DmaTarget nD τ sig (.scVector ((i 0).castLE hcore0) ((i 1).castLE hsub0)) .vmem s .f32).Typed .hbm (.dma sem.sem))
    (O : CellTallies nD τ sig (HIx 1)) (W : Waits sig (HIx 1)) :
    iprop((c.view.loc (thrV d i) ↦{q} fs) ∗ (∃ f, b.view.loc (thrV d i) ↦{fullShare} f) ∗ semVal (thrV d i, .dma sem.sem) 0 ∗ owesN d i O W
        ∗ Transfers.MayWaits (thrV d i) (none : HIx 1) O)
      ⊢ WP d i (Prog.lift (.enqueueDma c (.here b) (.dma sem.sem) hsrc hdst hsem)) fun _ => WP d i (Prog.lift (.waitDma2 sem.sem c b hsrc hdst)) fun _ =>
          iprop((c.view.loc (thrV d i) ↦{q} fs)
            ∗ (∃ f, ⌜b.view.read (Elt F) f = c.view.read (Elt F) fs⌝ ∗ b.view.loc (thrV d i) ↦{fullShare} f)
            ∗ semVal (thrV d i, .dma sem.sem) 0 ∗ owesN d i O W) := by
  unfold owesN
  iintro ⟨Hx, ⟨%f, Hb⟩, Hs, ⟨%W', %hW', HO⟩, #Hmw⟩
  ihave Hx' := (pointsTo_split_subset (Finset.subset_univ (c.view.set))).1 $$ Hx
  icases Hx' with ⟨Hx, Hr⟩
  iapply (wp_wand_r frame _ _)
  isplitl [Hx Hb Hs]
  · iapply (issueV d i c b sem hN (Finset.subset_univ _) q fs f hsrc hdst hsem)
    isplitl [Hx]; · iexact Hx
    isplitl [Hb]; · iexact Hb
    iexact Hs
  iintro %_ HF
  iapply (wp_wand_r frame _ _)
  isplitl [HF HO]
  · iapply (collectV d i c b sem hsrc hdst _ O W')
    isplitl [HF]; · iexact HF
    isplitr; · iexact Hmw
    iexact HO
  iintro %_ ⟨⟨Hb, Hx⟩, Hs, HO⟩
  isplitl [Hx Hr]
  · iapply (pointsTo_split_subset (Finset.subset_univ (c.view.set))).2
    isplitl [Hx]; · iexact Hx
    iexact Hr
  isplitl [Hb]
  · iexists (b.view.write (Elt F) f (c.view.read (Elt F) fs) Finset.univ)
    isplitr
    · ipureintro; exact View.read_write_univ _ _
    · iexact Hb
  isplitl [Hs]; · iexact Hs
  iexists (insert (SemLoc.dma sem.sem, none) W')
  isplitr
  · ipureintro
    intro p hp
    rcases Finset.mem_insert.mp hp with hp | hp
    · exact .inr (by rw [hp])
    · exact hW' p hp
  · iexact HO

end Cert.KernelIdeal.Tile
end
-- ==== Proof.Ideal.Body.lean ====
/-
  THE WHOLE TASK OF A TILE, run once at a symbolic tile: from the read shares of the three inputs, the tile's own buffers and semaphores and its row of
  the shared result, to the same with the row's first 52 slots at `tileVals`.
-/
module

public import proofs.«01_k».proof.Proof.Ideal.Tile

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- A plane offset over the tile's number. -/
theorem toWid {i : grid0.Coords} {o : Fin 5 → ℕ} {n : ℕ} (h : o = ![n, 0, 4 * (i 1).val + 2 * (i 0).val, 0, 0]) : o = ![n, 0, 2 * wid i, 0, 0] := by
  rw [h, show 2 * wid i = 4 * (i 1).val + 2 * (i 0).val from by unfold wid; omega]

theorem tileVals_eq (x : S64x1x64x64x64.Idx → F .f32) (m : S1x1x64x64x64.Idx → F .f32) (w : S2x1x64x64x64.Idx → F .f32) (p c : ℕ) (j : Fin 4) :
    chunk4 (chunkOf x p c) (maskedW m w 0 p) (maskedW m w 1 p) j = tileVals x m w p (4 * c + j.val) := by
  have hj : j.val < 4 := j.isLt
  unfold tileVals
  rw [show (4 * c + j.val) / 4 = c from by omega, show (⟨(4 * c + j.val) % 4, Nat.mod_lt _ (by decide)⟩ : Fin 4) = j from Fin.ext (by show (4 * c + j.val) % 4 = j.val; omega)]

/-- The four values of a list are what the slots of chunk `c` hold. -/
def IsChunk (vals : ℕ → FVec F S16 .f32) (c : ℕ) (r : (Σ' (_ : FVec F S16 .f32) (_ : FVec F S16 .f32) (_ : FVec F S16 .f32), FVec F S16 .f32)) : Prop :=
  r.1 = vals (4 * c) ∧ r.2.1 = vals (4 * c + 1) ∧ r.2.2.1 = vals (4 * c + 2) ∧ r.2.2.2 = vals (4 * c + 3)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- One step of the middle, chunk by chunk: chunk `c`'s sums stored, chunk `c + 1` run. -/
theorem mid_step {c : ℕ} (hc : c < 12) {o0 o1 o2 o3 : Fin S16x128.rank → ℕ}
    (e0 : o0 = ![4 * c / 8, 16 * (4 * c % 8)]) (e1 : o1 = ![(4 * c + 1) / 8, 16 * ((4 * c + 1) % 8)]) (e2 : o2 = ![(4 * c + 2) / 8, 16 * ((4 * c + 2) % 8)]) (e3 : o3 = ![(4 * c + 3) / 8, 16 * ((4 * c + 3) % 8)])
    (h0 : ∀ a, o0 a + S1x16.size a ≤ S16x128.size a) (h1 : ∀ a, o1 a + S1x16.size a ≤ S16x128.size a)
    (h2 : ∀ a, o2 a + S1x16.size a ≤ S16x128.size a) (h3 : ∀ a, o3 a + S1x16.size a ≤ S16x128.size a)
    (xw xe : Fin S64x1x64x64x64.rank → ℕ) (hw : ∀ a, xw a + S2x1x2x64x64.size a ≤ S64x1x64x64x64.size a) (he : ∀ a, xe a + S2x1x2x64x64.size a ≤ S64x1x64x64x64.size a)
    (hx : xw = ![38 + 2 * (c + 1), 0, 2 * wid i, 0, 0])
    (fx : Buf (Elt F) (arg2.view.loc (thrV d i))) (m : S1x1x64x64x64.Idx → F .f32) (w : S2x1x64x64x64.Idx → F .f32)
    (f7 : Buf (Elt F) (arg7.view.loc (thrV d i))) (f8 : Buf (Elt F) (arg8.view.loc (thrV d i)))
    (h7 : arg7.view.read (Elt F) f7 = maskedW m w 0 (wid i)) (h8 : arg8.view.read (Elt F) f8 = maskedW m w 1 (wid i))
    (r : (Σ' (_ : FVec F S16 .f32) (_ : FVec F S16 .f32) (_ : FVec F S16 .f32), FVec F S16 .f32)) (hr : IsChunk (tileVals (arg2.view.read (Elt F) fx) m w (wid i)) c r)
    (q q' : PosShare TreeShare) (O : CellTallies nD τ sig (HIx 1)) (W : Waits sig (HIx 1)) :
    midSt d i arg2 arg7 arg8 arg11 (tileVals (arg2.view.read (Elt F) fx) m w (wid i)) (4 * c) arg9 arg10 arg12 arg13 q q' xw hw fx f7 f8 O W
      ⊢ WP d i (mid i arg2 harg2 arg3 harg3 arg4 harg4 arg5 harg5 arg6 harg6 arg7 harg7 arg8 harg8 arg9 harg9 arg10 harg10 arg11 harg11 arg12 arg13 v356_r0 v356_r1 v356_r2 v356_r3 o0 o1 o2 o3 h0 h1 h2 h3 xw xe hw he r.1 r.2.1 r.2.2.1 r.2.2.2)
          fun r' => iprop(⌜IsChunk (tileVals (arg2.view.read (Elt F) fx) m w (wid i)) (c + 1) r'⌝
            ∗ midSt d i arg2 arg7 arg8 arg11 (tileVals (arg2.view.read (Elt F) fx) m w (wid i)) (4 * (c + 1)) arg10 arg9 arg13 arg12 q' q xe he fx f7 f8 O W) := by
  refine (mid_spec d i arg2 harg2 arg3 harg3 arg4 harg4 arg5 harg5 arg6 harg6 arg7 harg7 arg8 harg8 arg9 harg9 arg10 harg10 arg11 harg11 arg12 arg13 v356_r0 v356_r1 v356_r2 v356_r3 (n := 4 * c) (by omega) e0 e1 e2 e3 h0 h1 h2 h3 xw xe hw he hr.1 hr.2.1 hr.2.2.1 hr.2.2.2 q q' fx f7 f8 O W).trans
    (wp_mono frame _ _ fun r' => ?_)
  rw [xChunk_read d i arg2 fx hx (by omega) (wid_lt i) hw, h7, h8]
  iintro ⟨%hr', H⟩
  isplitr
  · ipureintro
    subst hr'
    have k := tileVals_eq (arg2.view.read (Elt F) fx) m w (wid i) (c + 1)
    exact ⟨k 0, k 1, k 2, k 3⟩
  · iexact H

/-! ## The first and last parts -/

set_option maxRecDepth 65536 in
theorem part42_eq : k0_part42 (F := F) i arg2 harg2 arg3 harg3 arg4 harg4 arg5 harg5 arg6 harg6 arg7 harg7 arg8 harg8 arg9 harg9 arg10 harg10 arg11 harg11 arg12 arg13 v356_r0 v356_r1 v356_r2 v356_r3
    = (do
        Prog.lift (.enqueueDma (mSlice arg3 (k0_off1 i) (k0_off1_inb i)) (.here arg6) (.dma v356_r0.sem) ((View.wordExact_bits rfl).reshape _ _) harg6.wordExact ⟨Or.inl rfl, trivial⟩)
        Prog.lift (.waitDma2 v356_r0.sem (mSlice arg3 (k0_off1 i) (k0_off1_inb i)) arg6 ((View.wordExact_bits rfl).reshape _ _) harg6.wordExact)
        Prog.lift (.enqueueDma (wSlice arg4 (k0_off2 i) (k0_off2_inb i)) (.here arg7) (.dma v356_r1.sem) ((View.wordExact_bits rfl).reshape _ _) harg7.wordExact ⟨Or.inl rfl, trivial⟩)
        Prog.lift (.waitDma2 v356_r1.sem (wSlice arg4 (k0_off2 i) (k0_off2_inb i)) arg7 ((View.wordExact_bits rfl).reshape _ _) harg7.wordExact)
        Prog.lift (.enqueueDma (wSlice arg4 (k0_off3 i) (k0_off3_inb i)) (.here arg8) (.dma v356_r2.sem) ((View.wordExact_bits rfl).reshape _ _) harg8.wordExact ⟨Or.inl rfl, trivial⟩)
        pure ⟨⟩ : Prog (TpuEff nD τ sig (Elt F) Λ₀ (.scVector ((i 0).castLE hcore0) ((i 1).castLE hsub0))) PUnit) := rfl

set_option maxRecDepth 65536 in
theorem part43_eq : k0_part43 (F := F) i arg2 harg2 arg3 harg3 arg4 harg4 arg5 harg5 arg6 harg6 arg7 harg7 arg8 harg8 arg9 harg9 arg10 harg10 arg11 harg11 arg12 arg13 v356_r0 v356_r1 v356_r2 v356_r3
    = (do
        Prog.lift (.waitDma2 v356_r2.sem (wSlice arg4 (k0_off3 i) (k0_off3_inb i)) arg8 ((View.wordExact_bits rfl).reshape _ _) harg8.wordExact)
        let _ : BitVec 32 ← Scf.Loop.for k0_t1_loop k0_t1_ok 0#32 (k0_t1_body i arg2 harg2 arg3 harg3 arg4 harg4 arg5 harg5 arg6 harg6 arg7 harg7 arg8 harg8 arg9 harg9 arg10 harg10 arg11 harg11 arg12 arg13 v356_r0 v356_r1 v356_r2 v356_r3)
        Prog.lift (.enqueueDma (xChunk arg2 (k0_off8 i) (k0_off8_inb i)) (.here arg9) (.dma arg12.sem) ((View.wordExact_bits rfl).reshape _ _) harg9.wordExact ⟨Or.inl rfl, trivial⟩)
        Prog.lift (.waitDma2 arg12.sem (xChunk arg2 (k0_off8 i) (k0_off8_inb i)) arg9 ((View.wordExact_bits rfl).reshape _ _) harg9.wordExact)
        Prog.lift (.enqueueDma (xChunk arg2 (k0_off9 i) (k0_off9_inb i)) (.here arg10) (.dma arg13.sem) ((View.wordExact_bits rfl).reshape _ _) harg10.wordExact ⟨Or.inl rfl, trivial⟩)
        let a ← Scf.Loop.for k0_t2_loop k0_t2_ok zero4 (k0_t2_body i arg2 harg2 arg3 harg3 arg4 harg4 arg5 harg5 arg6 harg6 arg7 harg7 arg8 harg8 arg9 harg9 arg10 harg10 arg11 harg11 arg12 arg13 v356_r0 v356_r1 v356_r2 v356_r3)
        pure ⟨a.1, a.2.1, a.2.2.1, a.2.2.2⟩ : Prog (TpuEff nD τ sig (Elt F) Λ₀ (.scVector ((i 0).castLE hcore0) ((i 1).castLE hsub0))) (Σ' (_ : FVec F S16 .f32) (_ : FVec F S16 .f32) (_ : FVec F S16 .f32), FVec F S16 .f32)) := rfl

set_option maxRecDepth 65536 in
theorem part55_eq (a0 a1 a2 a3 : FVec F S16 .f32) : k0_part55 (F := F) i arg2 harg2 arg3 harg3 arg4 harg4 arg5 harg5 arg6 harg6 arg7 harg7 arg8 harg8 arg9 harg9 arg10 harg10 arg11 harg11 arg12 arg13 v356_r0 v356_r1 v356_r2 v356_r3 a0 a1 a2 a3
    = (do
        put i arg11 ![5, 64] inb_S16x128_S1x16_5_64 a0
        put i arg11 ![5, 80] inb_S16x128_S1x16_5_80 a1
        put i arg11 ![5, 96] inb_S16x128_S1x16_5_96 a2
        put i arg11 ![5, 112] inb_S16x128_S1x16_5_112 a3
        Prog.lift (.waitDma2 arg12.sem (xChunk arg2 (k0_off152 i) (k0_off152_inb i)) arg9 ((View.wordExact_bits rfl).reshape _ _) harg9.wordExact)
        let a ← Scf.Loop.for k0_t2_loop k0_t2_ok zero4 (k0_t2_body i arg2 harg2 arg3 harg3 arg4 harg4 arg5 harg5 arg6 harg6 arg7 harg7 arg8 harg8 arg9 harg9 arg10 harg10 arg11 harg11 arg12 arg13 v356_r0 v356_r1 v356_r2 v356_r3)
        put i arg11 ![6, 0] inb_S16x128_S1x16_6_0 a.1
        put i arg11 ![6, 16] inb_S16x128_S1x16_6_16 a.2.1
        pure ⟨a.2.2.1, a.2.2.2⟩ : Prog (TpuEff nD τ sig (Elt F) Λ₀ (.scVector ((i 0).castLE hcore0) ((i 1).castLE hsub0))) (Σ' (_ : FVec F S16 .f32), FVec F S16 .f32)) := rfl

set_option maxRecDepth 65536 in
theorem body_eq : cc0__sc_body (F := F) i arg2 harg2 arg3 harg3 arg4 harg4 arg5 harg5 arg6 harg6 arg7 harg7 arg8 harg8 arg9 harg9 arg10 harg10 arg11 harg11 arg12 arg13 v356_r0 v356_r1 v356_r2 v356_r3
    = (do
        k0_part42 i arg2 harg2 arg3 harg3 arg4 harg4 arg5 harg5 arg6 harg6 arg7 harg7 arg8 harg8 arg9 harg9 arg10 harg10 arg11 harg11 arg12 arg13 v356_r0 v356_r1 v356_r2 v356_r3
        let r ← k0_part43 i arg2 harg2 arg3 harg3 arg4 harg4 arg5 harg5 arg6 harg6 arg7 harg7 arg8 harg8 arg9 harg9 arg10 harg10 arg11 harg11 arg12 arg13 v356_r0 v356_r1 v356_r2 v356_r3
        let r ← k0_part44 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part45 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part46 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part47 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part48 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part49 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part50 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part51 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part52 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part53 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part54 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part55 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        put i arg11 ![6, 32] inb_S16x128_S1x16_6_32 r.1
        put i arg11 ![6, 48] inb_S16x128_S1x16_6_48 r.2
        Prog.lift (.enqueueDma arg11 (.here (oSlice i arg5)) (.dma v356_r3.sem) harg11.wordExact ((View.wordExact_bits rfl).reshape _ _) ⟨Or.inl rfl, trivial⟩)
        Prog.lift (.waitDma2 v356_r3.sem arg11 (oSlice i arg5) harg11.wordExact ((View.wordExact_bits rfl).reshape _ _))
        pure ⟨⟩ : Prog (TpuEff nD τ sig (Elt F) Λ₀ (.scVector ((i 0).castLE hcore0) ((i 1).castLE hsub0))) PUnit) := rfl

end Cert.KernelIdeal.Tile
end
-- ==== Proof.Ideal.Setup.lean ====
/-
  THE TASK'S RUN: the mask and weights in and folded, chunk 0 run with chunk 1 on its way (`setup_spec`), eleven middle steps, the last chunk
  and the row out (`finish_spec`), put together in `tile_spec`.
-/
module

public import proofs.«01_k».proof.Proof.Ideal.Body

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- A wait more of the thread's own. -/
theorem owesN_insert {sm : SemLoc sig} {O : CellTallies nD τ sig (HIx 1)} {W W' : Waits sig (HIx 1)} (h : ∀ p ∈ W', p ∈ W ∨ p.2 = none) :
    (owes (thrV d i) O (insert (sm, none) W') : sProp 𝕄) ⊢ owesN d i O W := by
  unfold owesN
  iintro HO
  iexists (insert (sm, none) W')
  isplitr
  · ipureintro
    intro p hp
    rcases Finset.mem_insert.mp hp with hp | hp
    · exact .inr (by rw [hp])
    · exact h p hp
  · iexact HO

/-- What the middle starts from: chunk 0 summed, chunk 1 on its way, the masked weights ready. -/
def readySt (fx : Buf (Elt F) (arg2.view.loc (thrV d i))) (fm : Buf (Elt F) (arg3.view.loc (thrV d i))) (fw : Buf (Elt F) (arg4.view.loc (thrV d i)))
    (qa qb qm qw : PosShare TreeShare) (O : CellTallies nD τ sig (HIx 1)) (W : Waits sig (HIx 1)) (r : (Σ' (_ : FVec F S16 .f32) (_ : FVec F S16 .f32) (_ : FVec F S16 .f32), FVec F S16 .f32)) : sProp 𝕄 :=
  iprop(⌜IsChunk (tileVals (arg2.view.read (Elt F) fx) (arg3.view.read (Elt F) fm) (arg4.view.read (Elt F) fw) (wid i)) 0 r⌝
    ∗ (∃ f7, ∃ f8, ⌜arg7.view.read (Elt F) f7 = maskedW (arg3.view.read (Elt F) fm) (arg4.view.read (Elt F) fw) 0 (wid i)
        ∧ arg8.view.read (Elt F) f8 = maskedW (arg3.view.read (Elt F) fm) (arg4.view.read (Elt F) fw) 1 (wid i)⌝
      ∗ midSt d i arg2 arg7 arg8 arg11 (tileVals (arg2.view.read (Elt F) fx) (arg3.view.read (Elt F) fm) (arg4.view.read (Elt F) fw) (wid i)) (4 * 0)
          arg10 arg9 arg13 arg12 qb qa (k0_off9 i) (k0_off9_inb i) fx f7 f8 O W)
    ∗ (arg3.view.loc (thrV d i) ↦{qm} fm) ∗ (arg4.view.loc (thrV d i) ↦{qw} fw) ∗ (∃ f, arg6.view.loc (thrV d i) ↦{fullShare} f)
    ∗ semVal (thrV d i, .dma v356_r0.sem) 0 ∗ semVal (thrV d i, .dma v356_r1.sem) 0 ∗ semVal (thrV d i, .dma v356_r2.sem) 0)

theorem setup_spec (fx : Buf (Elt F) (arg2.view.loc (thrV d i))) (fm : Buf (Elt F) (arg3.view.loc (thrV d i))) (fw : Buf (Elt F) (arg4.view.loc (thrV d i)))
    (qa qb qm qw : PosShare TreeShare) (O : CellTallies nD τ sig (HIx 1)) (W : Waits sig (HIx 1)) :
    iprop((arg2.view.loc (thrV d i) ↦{qa} fx) ∗ (arg2.view.loc (thrV d i) ↦{qb} fx) ∗ (arg3.view.loc (thrV d i) ↦{qm} fm) ∗ (arg4.view.loc (thrV d i) ↦{qw} fw)
        ∗ (∃ f, arg6.view.loc (thrV d i) ↦{fullShare} f) ∗ (∃ f, arg7.view.loc (thrV d i) ↦{fullShare} f) ∗ (∃ f, arg8.view.loc (thrV d i) ↦{fullShare} f)
        ∗ (∃ f, arg9.view.loc (thrV d i) ↦{fullShare} f) ∗ (∃ f, arg10.view.loc (thrV d i) ↦{fullShare} f) ∗ (∃ f, arg11.view.loc (thrV d i) ↦{fullShare} f)
        ∗ semVal (thrV d i, .dma arg12.sem) 0 ∗ semVal (thrV d i, .dma arg13.sem) 0 ∗ semVal (thrV d i, .dma v356_r0.sem) 0
        ∗ semVal (thrV d i, .dma v356_r1.sem) 0 ∗ semVal (thrV d i, .dma v356_r2.sem) 0 ∗ owesN d i O W ∗ Transfers.MayWaits (thrV d i) (none : HIx 1) O)
      ⊢ WP d i (k0_part42 i arg2 harg2 arg3 harg3 arg4 harg4 arg5 harg5 arg6 harg6 arg7 harg7 arg8 harg8 arg9 harg9 arg10 harg10 arg11 harg11 arg12 arg13 v356_r0 v356_r1 v356_r2 v356_r3) fun _ => WP d i (k0_part43 i arg2 harg2 arg3 harg3 arg4 harg4 arg5 harg5 arg6 harg6 arg7 harg7 arg8 harg8 arg9 harg9 arg10 harg10 arg11 harg11 arg12 arg13 v356_r0 v356_r1 v356_r2 v356_r3)
          (readySt d i arg2 arg3 arg4 arg6 arg7 arg8 arg9 arg10 arg11 arg12 arg13 v356_r0 v356_r1 v356_r2 fx fm fw qa qb qm qw O W) := by
  rw [part42_eq, part43_eq]
  iintro ⟨Hxa, Hxb, Hm, Hw, H6, H7, H8, H9, H10, ⟨%f11, H11⟩, Hs12, Hs13, Hr0, Hr1, Hr2, HO, #Hmw⟩
  unfold WP
  simp only [wp_bind]
  iapply (wp_wand_r frame _ _)
  isplitl [Hm H6 Hr0 HO]
  · iapply (fetch d i (mSlice arg3 (k0_off1 i) (k0_off1_inb i)) arg6 v356_r0 (View.dmaCredit_pos _ (by decide)) qm fm _ _ _ O W)
    isplitl [Hm]; · iexact Hm
    isplitl [H6]; · iexact H6
    isplitl [Hr0]; · iexact Hr0
    isplitl [HO]; · iexact HO
    iexact Hmw
  iintro %_ H
  iapply (wp_wand_r frame _ _)
  isplitl [H]; · iexact H
  iintro %_ ⟨Hm, ⟨%f6, %h6, H6⟩, Hr0, HO⟩
  iapply (wp_wand_r frame _ _)
  isplitl [Hw H7 Hr1 HO]
  · iapply (fetch d i (wSlice arg4 (k0_off2 i) (k0_off2_inb i)) arg7 v356_r1 (View.dmaCredit_pos _ (by decide)) qw fw _ _ _ O W)
    isplitl [Hw]; · iexact Hw
    isplitl [H7]; · iexact H7
    isplitl [Hr1]; · iexact Hr1
    isplitl [HO]; · iexact HO
    iexact Hmw
  iintro %_ H
  iapply (wp_wand_r frame _ _)
  isplitl [H]; · iexact H
  iintro %_ ⟨Hw, H7, Hr1, HO⟩
  iapply (wp_wand_r frame _ _)
  isplitl [Hw H8 Hr2 HO]
  · iapply (fetch d i (wSlice arg4 (k0_off3 i) (k0_off3_inb i)) arg8 v356_r2 (View.dmaCredit_pos _ (by decide)) qw fw _ _ _ O W)
    isplitl [Hw]; · iexact Hw
    isplitl [H8]; · iexact H8
    isplitl [Hr2]; · iexact Hr2
    isplitl [HO]; · iexact HO
    iexact Hmw
  iintro %_ H
  rw [wp_pure]
  imodintro
  iapply (wp_wand_r frame _ _)
  isplitl [H]; · iexact H
  iintro %_ ⟨Hw, H8, Hr2, HO⟩
  iapply (wp_wand_r frame _ _)
  isplitl [H6 H7 H8]
  · iapply (fold_loop d i arg2 harg2 arg3 harg3 arg4 harg4 arg5 harg5 arg6 harg6 arg7 harg7 arg8 harg8 arg9 harg9 arg10 harg10 arg11 harg11 arg12 arg13 v356_r0 v356_r1 v356_r2 v356_r3 _ _ f6)
    isplitl [H6]; · iexact H6
    isplitl [H7]; · iexact H7
    iexact H8
  iintro %_ ⟨H6, ⟨%f7, %h7, H7⟩, ⟨%f8, %h8, H8⟩⟩
  rw [h6, mSlice_read d i arg3 fm (toWid (k0_off1_eq i)) (wid_lt i), wSlice_read d i arg4 fw (u := 0) (toWid (k0_off2_eq i)) (wid_lt i)] at h7
  rw [h6, mSlice_read d i arg3 fm (toWid (k0_off1_eq i)) (wid_lt i), wSlice_read d i arg4 fw (u := 1) (toWid (k0_off3_eq i)) (wid_lt i)] at h8
  iapply (wp_wand_r frame _ _)
  isplitl [Hxa H9 Hs12]
  · iapply (issue_spec d i arg2 arg9 harg9 arg12 (k0_off8 i) (k0_off8_inb i) qa fx)
    isplitl [Hxa]; · iexact Hxa
    isplitl [H9]; · iexact H9
    iexact Hs12
  iintro %_ ⟨HF, Hr⟩
  unfold owesN
  icases HO with ⟨%W', %hW', HO⟩
  iapply (wp_wand_r frame _ _)
  isplitl [HF Hr HO]
  · iapply (collect_spec d i arg2 arg9 harg9 arg12 (k0_off8 i) (k0_off8_inb i) qa fx O W')
    isplitl [HF]; · iexact HF
    isplitl [Hr]; · iexact Hr
    isplitr; · iexact Hmw
    iexact HO
  iintro %_ ⟨Hxa, ⟨%f9, %h9, H9⟩, Hs12, HO⟩
  rw [xChunk_read d i arg2 fx (c := 0) (toWid (k0_off8_eq i)) (by omega) (wid_lt i)] at h9
  ihave HO := (owesN_insert d i hW') $$ HO
  iapply (wp_wand_r frame _ _)
  isplitl [Hxb H10 Hs13]
  · iapply (issue_spec d i arg2 arg10 harg10 arg13 (k0_off9 i) (k0_off9_inb i) qb fx)
    isplitl [Hxb]; · iexact Hxb
    isplitl [H10]; · iexact H10
    iexact Hs13
  iintro %_ ⟨HF, Hr⟩
  iapply (wp_wand_r frame _ _)
  isplitl [H7 H8 H9]
  · iapply (row_loop d i arg2 harg2 arg3 harg3 arg4 harg4 arg5 harg5 arg6 harg6 arg7 harg7 arg8 harg8 arg9 harg9 arg10 harg10 arg11 harg11 arg12 arg13 v356_r0 v356_r1 v356_r2 v356_r3 fullShare fullShare fullShare f7 f8 f9)
    isplitl [H7]; · iexact H7
    isplitl [H8]; · iexact H8
    iexact H9
  iintro %acc HI
  unfold rowInv
  icases HI with ⟨%hacc, H7, H8, H9⟩
  subst hacc
  rw [wp_pure]
  imodintro
  unfold readySt
  isplitr
  · ipureintro
    rw [h9, h7, h8]
    have k := tileVals_eq (arg2.view.read (Elt F) fx) (arg3.view.read (Elt F) fm) (arg4.view.read (Elt F) fw) (wid i) 0
    exact ⟨k 0, k 1, k 2, k 3⟩
  isplitl [H7 H8 H9 Hxa HF Hr HO Hs12 H11]
  · iexists f7; iexists f8
    isplitr
    · ipureintro; exact ⟨h7, h8⟩
    unfold midSt
    isplitl [H11]
    · iexists f11
      isplitr
      · ipureintro; intro s hs; exact absurd hs (by omega)
      · iexact H11
    isplitl [HF]; · iexact HF
    isplitl [Hr]; · iexact Hr
    isplitl [H9]; · iexists f9; iexact H9
    isplitl [Hs12]; · iexact Hs12
    isplitl [Hxa]; · iexact Hxa
    isplitl [H7]; · iexact H7
    isplitl [H8]; · iexact H8
    isplitr; · iexact Hmw
    unfold owesN
    iexact HO
  isplitl [Hm]; · iexact Hm
  isplitl [Hw]; · iexact Hw
  isplitl [H6]; · iexists f6; iexact H6
  isplitl [Hr0]; · iexact Hr0
  isplitl [Hr1]; · iexact Hr1
  iexact Hr2

end Cert.KernelIdeal.Tile
end
-- ==== Proof.Ideal.Finish.lean ====
/-
  THE TASK'S END: the sums of the last two chunks stored, and the part array copied out to the tile's row of the shared result.
-/
module

public import proofs.«01_k».proof.Proof.Ideal.Setup

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- What the tile ends with: the inputs' shares, its buffers and semaphores, and its row with the 52 slots. -/
def doneSt (fx : Buf (Elt F) (arg2.view.loc (thrV d i))) (qa qb : PosShare TreeShare) (vals : ℕ → FVec F S16 .f32) (O : CellTallies nD τ sig (HIx 1)) (W : Waits sig (HIx 1)) : sProp 𝕄 :=
  iprop((arg2.view.loc (thrV d i) ↦{qa} fx) ∗ (arg2.view.loc (thrV d i) ↦{qb} fx)
    ∗ (∃ f, ⌜PartOK vals 52 ((oSlice i arg5).view.read (Elt F) f)⌝ ∗ (oSlice i arg5).view.loc (thrV d i) ↦[(oSlice i arg5).view.set]{fullShare} f)
    ∗ (∃ f, arg7.view.loc (thrV d i) ↦{fullShare} f) ∗ (∃ f, arg8.view.loc (thrV d i) ↦{fullShare} f)
    ∗ (∃ f, arg9.view.loc (thrV d i) ↦{fullShare} f) ∗ (∃ f, arg10.view.loc (thrV d i) ↦{fullShare} f) ∗ (∃ f, arg11.view.loc (thrV d i) ↦{fullShare} f)
    ∗ semVal (thrV d i, .dma arg12.sem) 0 ∗ semVal (thrV d i, .dma arg13.sem) 0 ∗ semVal (thrV d i, .dma v356_r3.sem) 0 ∗ owesN d i O W)

/-- The last parts, written out: the last chunk's sums stored, the row copied out. -/
def lastPart (r : (Σ' (_ : FVec F S16 .f32) (_ : FVec F S16 .f32) (_ : FVec F S16 .f32), FVec F S16 .f32)) : Prog (TpuEff nD τ sig (Elt F) Λ₀ (.scVector ((i 0).castLE hcore0) ((i 1).castLE hsub0))) PUnit := do
  let r ← k0_part55 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
  put i arg11 ![6, 32] inb_S16x128_S1x16_6_32 r.1
  put i arg11 ![6, 48] inb_S16x128_S1x16_6_48 r.2
  Prog.lift (.enqueueDma arg11 (.here (oSlice i arg5)) (.dma v356_r3.sem) harg11.wordExact ((View.wordExact_bits rfl).reshape _ _) ⟨Or.inl rfl, trivial⟩)
  Prog.lift (.waitDma2 v356_r3.sem arg11 (oSlice i arg5) harg11.wordExact ((View.wordExact_bits rfl).reshape _ _))
  pure ⟨⟩

set_option maxHeartbeats 1000000 in
theorem finish_spec (fx : Buf (Elt F) (arg2.view.loc (thrV d i))) (m : S1x1x64x64x64.Idx → F .f32) (w : S2x1x64x64x64.Idx → F .f32)
    (f7 : Buf (Elt F) (arg7.view.loc (thrV d i))) (f8 : Buf (Elt F) (arg8.view.loc (thrV d i)))
    (h7 : arg7.view.read (Elt F) f7 = maskedW m w 0 (wid i)) (h8 : arg8.view.read (Elt F) f8 = maskedW m w 1 (wid i))
    (r : (Σ' (_ : FVec F S16 .f32) (_ : FVec F S16 .f32) (_ : FVec F S16 .f32), FVec F S16 .f32)) (hr : IsChunk (tileVals (arg2.view.read (Elt F) fx) m w (wid i)) (10 + 1) r)
    (qa qb : PosShare TreeShare) (O : CellTallies nD τ sig (HIx 1)) (W : Waits sig (HIx 1)) (f5 : Buf (Elt F) ((oSlice i arg5).view.loc (thrV d i))) :
    iprop(midSt d i arg2 arg7 arg8 arg11 (tileVals (arg2.view.read (Elt F) fx) m w (wid i)) (4 * (10 + 1)) arg9 arg10 arg12 arg13 qa qb (k0_off152 i) (k0_off152_inb i) fx f7 f8 O W
        ∗ semVal (thrV d i, .dma v356_r3.sem) 0 ∗ (oSlice i arg5).view.loc (thrV d i) ↦[(oSlice i arg5).view.set]{fullShare} f5)
      ⊢ WP d i (lastPart i arg2 harg2 arg3 harg3 arg4 harg4 arg5 harg5 arg6 harg6 arg7 harg7 arg8 harg8 arg9 harg9 arg10 harg10 arg11 harg11 arg12 arg13 v356_r0 v356_r1 v356_r2 v356_r3 r) fun _ => doneSt d i arg2 arg5 arg7 arg8 arg9 arg10 arg11 arg12 arg13 v356_r3 fx qa qb (tileVals (arg2.view.read (Elt F) fx) m w (wid i)) O W := by
  unfold midSt lastPart
  rw [part55_eq]
  iintro ⟨⟨Hp, HF, Hr, H10, Hs13, Hxb, H7, H8, #Hmw, %W', %hW', HO⟩, Hr3, H5⟩
  unfold WP
  simp only [wp_bind]
  iapply (wp_wand_r frame _ _)
  isplitl [Hp]
  · iapply (put_spec d i arg11 (n := 44) (by omega) (by decide) inb_S16x128_S1x16_5_64 hr.1) $$ Hp
  iintro %_ Hp
  iapply (wp_wand_r frame _ _)
  isplitl [Hp]
  · iapply (put_spec d i arg11 (n := 45) (by omega) (by decide) inb_S16x128_S1x16_5_80 hr.2.1) $$ Hp
  iintro %_ Hp
  iapply (wp_wand_r frame _ _)
  isplitl [Hp]
  · iapply (put_spec d i arg11 (n := 46) (by omega) (by decide) inb_S16x128_S1x16_5_96 hr.2.2.1) $$ Hp
  iintro %_ Hp
  iapply (wp_wand_r frame _ _)
  isplitl [Hp]
  · iapply (put_spec d i arg11 (n := 47) (by omega) (by decide) inb_S16x128_S1x16_5_112 hr.2.2.2) $$ Hp
  iintro %_ Hp
  iapply (wp_wand_r frame _ _)
  isplitl [HF Hr HO]
  · iapply (collect_spec d i arg2 arg9 harg9 arg12 (k0_off152 i) (k0_off152_inb i) qa fx O W')
    isplitl [HF]; · iexact HF
    isplitl [Hr]; · iexact Hr
    isplitr; · iexact Hmw
    iexact HO
  iintro %_ ⟨Hxa, ⟨%f9, %h9, H9⟩, Hs12, HO⟩
  rw [xChunk_read d i arg2 fx (c := 12) (toWid (k0_off152_eq i)) (by omega) (wid_lt i)] at h9
  ihave HO := (owesN_insert d i hW') $$ HO
  iapply (wp_wand_r frame _ _)
  isplitl [H7 H8 H9]
  · iapply (row_loop d i arg2 harg2 arg3 harg3 arg4 harg4 arg5 harg5 arg6 harg6 arg7 harg7 arg8 harg8 arg9 harg9 arg10 harg10 arg11 harg11 arg12 arg13 v356_r0 v356_r1 v356_r2 v356_r3 fullShare fullShare fullShare f7 f8 f9)
    isplitl [H7]; · iexact H7
    isplitl [H8]; · iexact H8
    iexact H9
  iintro %acc HI
  unfold rowInv
  icases HI with ⟨%hacc, H7, H8, H9⟩
  subst hacc
  rw [h9, h7, h8]
  have k := tileVals_eq (arg2.view.read (Elt F) fx) m w (wid i) 12
  iapply (wp_wand_r frame _ _)
  isplitl [Hp]
  · iapply (put_spec d i arg11 (n := 48) (by omega) (by decide) inb_S16x128_S1x16_6_0 (k 0)) $$ Hp
  iintro %_ Hp
  iapply (wp_wand_r frame _ _)
  isplitl [Hp]
  · iapply (put_spec d i arg11 (n := 49) (by omega) (by decide) inb_S16x128_S1x16_6_16 (k 1)) $$ Hp
  iintro %_ Hp
  rw [wp_pure]
  imodintro
  iapply (wp_wand_r frame _ _)
  isplitl [Hp]
  · iapply (put_spec d i arg11 (n := 50) (by omega) (by decide) inb_S16x128_S1x16_6_32 (k 2)) $$ Hp
  iintro %_ Hp
  iapply (wp_wand_r frame _ _)
  isplitl [Hp]
  · iapply (put_spec d i arg11 (n := 51) (by omega) (by decide) inb_S16x128_S1x16_6_48 (k 3)) $$ Hp
  iintro %_ Hp
  icases Hp with ⟨%f11, %h11, H11⟩
  ihave H11 := (pointsTo_split_subset (Finset.subset_univ (arg11.view.set))).1 $$ H11
  icases H11 with ⟨H11, Hrest⟩
  iapply (wp_wand_r frame _ _)
  isplitl [H11 H5 Hr3]
  · iapply (issueV d i arg11 (oSlice i arg5) v356_r3 (View.dmaCredit_pos _ (by decide)) (Finset.Subset.refl _) fullShare f11 f5 _ _ _)
    isplitl [H11]; · iexact H11
    isplitl [H5]; · iexact H5
    iexact Hr3
  iintro %_ HF
  unfold owesN
  icases HO with ⟨%W2, %hW2, HO⟩
  iapply (wp_wand_r frame _ _)
  isplitl [HF HO]
  · iapply (collectV d i arg11 (oSlice i arg5) v356_r3 _ _ _ O W2)
    isplitl [HF]; · iexact HF
    isplitr; · iexact Hmw
    iexact HO
  iintro %_ ⟨⟨H5, H11⟩, Hr3, HO⟩
  ihave HO := (owesN_insert d i hW2) $$ HO
  rw [wp_pure]
  imodintro
  unfold doneSt
  isplitl [Hxa]; · iexact Hxa
  isplitl [Hxb]; · iexact Hxb
  isplitl [H5]
  · iexists ((oSlice i arg5).view.write (Elt F) f5 (arg11.view.read (Elt F) f11) Finset.univ)
    isplitr
    · ipureintro; rw [View.read_write_univ]; exact h11
    · iexact H5
  isplitl [H7]; · iexists f7; iexact H7
  isplitl [H8]; · iexists f8; iexact H8
  isplitl [H9]; · iexists f9; iexact H9
  isplitl [H10]; · iexact H10
  isplitl [H11 Hrest]
  · iexists f11
    iapply (pointsTo_split_subset (Finset.subset_univ (arg11.view.set))).2
    isplitl [H11]; · iexact H11
    iexact Hrest
  isplitl [Hs12]; · iexact Hs12
  isplitl [Hs13]; · iexact Hs13
  isplitl [Hr3]; · iexact Hr3
  iexact HO

end Cert.KernelIdeal.Tile
end
-- ==== Proof.Ideal.Whole.lean ====
/-
  THE WHOLE TASK OF A TILE (`tile_spec`), at a symbolic tile: from read shares of the three inputs, the tile's buffers, its semaphores at zero and
  its row of the shared result, to the same with the row's first 52 slots at `tileVals`.
-/
module

public import proofs.«01_k».proof.Proof.Ideal.Finish

@[expose] public section

noncomputable section

namespace Cert.KernelIdeal.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (arg2 : Memref sig .scVector .hbm S64x1x64x64x64 .f32) (harg2 : arg2.IsWhole) (arg3 : Memref sig .scVector .hbm S1x1x64x64x64 .f32) (harg3 : arg3.IsWhole) (arg4 : Memref sig .scVector .hbm S2x1x64x64x64 .f32) (harg4 : arg4.IsWhole) (arg5 : Memref sig .scVector .hbm S32x16x128 .f32) (harg5 : arg5.IsWhole) (arg6 : Memref sig .scVector .vmem S2x64x64 .f32) (harg6 : arg6.IsWhole) (arg7 : Memref sig .scVector .vmem S2x64x64 .f32) (harg7 : arg7.IsWhole) (arg8 : Memref sig .scVector .vmem S2x64x64 .f32) (harg8 : arg8.IsWhole) (arg9 : Memref sig .scVector .vmem S2x2x64x64 .f32) (harg9 : arg9.IsWhole) (arg10 : Memref sig .scVector .vmem S2x2x64x64 .f32) (harg10 : arg10.IsWhole) (arg11 : Memref sig .scVector .vmem S16x128 .f32) (harg11 : arg11.IsWhole) (arg12 : DmaSems sig S_) (arg13 : DmaSems sig S_) (v356_r0 : DmaSems sig S_) (v356_r1 : DmaSems sig S_) (v356_r2 : DmaSems sig S_) (v356_r3 : DmaSems sig S_)

/-- The tile's private resources: its six buffers and six semaphores. -/
def ownSt : sProp 𝕄 :=
  iprop((∃ f, arg6.view.loc (thrV d i) ↦{fullShare} f) ∗ (∃ f, arg7.view.loc (thrV d i) ↦{fullShare} f) ∗ (∃ f, arg8.view.loc (thrV d i) ↦{fullShare} f)
    ∗ (∃ f, arg9.view.loc (thrV d i) ↦{fullShare} f) ∗ (∃ f, arg10.view.loc (thrV d i) ↦{fullShare} f) ∗ (∃ f, arg11.view.loc (thrV d i) ↦{fullShare} f)
    ∗ semVal (thrV d i, .dma arg12.sem) 0 ∗ semVal (thrV d i, .dma arg13.sem) 0 ∗ semVal (thrV d i, .dma v356_r0.sem) 0
    ∗ semVal (thrV d i, .dma v356_r1.sem) 0 ∗ semVal (thrV d i, .dma v356_r2.sem) 0 ∗ semVal (thrV d i, .dma v356_r3.sem) 0)

set_option maxRecDepth 65536 in
/-- The task as its parts, the last ones together. -/
theorem body_eq' : cc0__sc_body (F := F) i arg2 harg2 arg3 harg3 arg4 harg4 arg5 harg5 arg6 harg6 arg7 harg7 arg8 harg8 arg9 harg9 arg10 harg10 arg11 harg11 arg12 arg13 v356_r0 v356_r1 v356_r2 v356_r3
    = (do
        k0_part42 i arg2 harg2 arg3 harg3 arg4 harg4 arg5 harg5 arg6 harg6 arg7 harg7 arg8 harg8 arg9 harg9 arg10 harg10 arg11 harg11 arg12 arg13 v356_r0 v356_r1 v356_r2 v356_r3
        let r ← k0_part43 i arg2 harg2 arg3 harg3 arg4 harg4 arg5 harg5 arg6 harg6 arg7 harg7 arg8 harg8 arg9 harg9 arg10 harg10 arg11 harg11 arg12 arg13 v356_r0 v356_r1 v356_r2 v356_r3
        let r ← k0_part44 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part45 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part46 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part47 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part48 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part49 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part50 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part51 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part52 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part53 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        let r ← k0_part54 i arg2 harg2 arg3 harg3 arg4 harg4 arg5 harg5 arg6 harg6 arg7 harg7 arg8 harg8 arg9 harg9 arg10 harg10 arg11 harg11 arg12 arg13 v356_r0 v356_r1 v356_r2 v356_r3 r.1 r.2.1 r.2.2.1 r.2.2.2
        lastPart i arg2 harg2 arg3 harg3 arg4 harg4 arg5 harg5 arg6 harg6 arg7 harg7 arg8 harg8 arg9 harg9 arg10 harg10 arg11 harg11 arg12 arg13 v356_r0 v356_r1 v356_r2 v356_r3 r : Prog (TpuEff nD τ sig (Elt F) Λ₀ (.scVector ((i 0).castLE hcore0) ((i 1).castLE hsub0))) PUnit) := rfl

set_option maxHeartbeats 1000000 in
theorem tile_spec (fx : Buf (Elt F) (arg2.view.loc (thrV d i))) (fm : Buf (Elt F) (arg3.view.loc (thrV d i))) (fw : Buf (Elt F) (arg4.view.loc (thrV d i)))
    (f5 : Buf (Elt F) ((oSlice i arg5).view.loc (thrV d i)))
    (qa qb qm qw : PosShare TreeShare) (O : CellTallies nD τ sig (HIx 1)) (W : Waits sig (HIx 1)) :
    iprop(Transfers.MayWaits (thrV d i) (none : HIx 1) O
        ∗ (arg2.view.loc (thrV d i) ↦{qa} fx) ∗ (arg2.view.loc (thrV d i) ↦{qb} fx) ∗ (arg3.view.loc (thrV d i) ↦{qm} fm) ∗ (arg4.view.loc (thrV d i) ↦{qw} fw)
        ∗ ((oSlice i arg5).view.loc (thrV d i) ↦[(oSlice i arg5).view.set]{fullShare} f5)
        ∗ ownSt d i arg6 arg7 arg8 arg9 arg10 arg11 arg12 arg13 v356_r0 v356_r1 v356_r2 v356_r3 ∗ owesN d i O W)
      ⊢ WP d i (cc0__sc_body i arg2 harg2 arg3 harg3 arg4 harg4 arg5 harg5 arg6 harg6 arg7 harg7 arg8 harg8 arg9 harg9 arg10 harg10 arg11 harg11 arg12 arg13 v356_r0 v356_r1 v356_r2 v356_r3) fun _ => iprop(
          (arg2.view.loc (thrV d i) ↦{qa} fx) ∗ (arg2.view.loc (thrV d i) ↦{qb} fx) ∗ (arg3.view.loc (thrV d i) ↦{qm} fm) ∗ (arg4.view.loc (thrV d i) ↦{qw} fw)
          ∗ (∃ f, ⌜PartOK (tileVals (arg2.view.read (Elt F) fx) (arg3.view.read (Elt F) fm) (arg4.view.read (Elt F) fw) (wid i)) 52 ((oSlice i arg5).view.read (Elt F) f)⌝ ∗ (oSlice i arg5).view.loc (thrV d i) ↦[(oSlice i arg5).view.set]{fullShare} f)
          ∗ ownSt d i arg6 arg7 arg8 arg9 arg10 arg11 arg12 arg13 v356_r0 v356_r1 v356_r2 v356_r3 ∗ owesN d i O W) := by
  rw [body_eq']
  unfold ownSt
  iintro ⟨#Hmw, Hxa, Hxb, Hm, Hw, H5, ⟨H6, H7, H8, H9, H10, H11, Hs12, Hs13, Hr0, Hr1, Hr2, Hr3⟩, HO⟩
  unfold WP
  simp only [wp_bind]
  iapply (wp_wand_r frame _ _)
  isplitl [Hxa Hxb Hm Hw H6 H7 H8 H9 H10 H11 Hs12 Hs13 Hr0 Hr1 Hr2 HO]
  · iapply (setup_spec d i arg2 harg2 arg3 harg3 arg4 harg4 arg5 harg5 arg6 harg6 arg7 harg7 arg8 harg8 arg9 harg9 arg10 harg10 arg11 harg11 arg12 arg13 v356_r0 v356_r1 v356_r2 v356_r3 fx fm fw qa qb qm qw O W)
    isplitl [Hxa]; · iexact Hxa
    isplitl [Hxb]; · iexact Hxb
    isplitl [Hm]; · iexact Hm
    isplitl [Hw]; · iexact Hw
    isplitl [H6]; · iexact H6
    isplitl [H7]; · iexact H7
    isplitl [H8]; · iexact H8
    isplitl [H9]; · iexact H9
    isplitl [H10]; · iexact H10
    isplitl [H11]; · iexact H11
    isplitl [Hs12]; · iexact Hs12
    isplitl [Hs13]; · iexact Hs13
    isplitl [Hr0]; · iexact Hr0
    isplitl [Hr1]; · iexact Hr1
    isplitl [Hr2]; · iexact Hr2
    isplitl [HO]; · iexact HO
    iexact Hmw
  iintro %_ H
  iapply (wp_wand_r frame _ _)
  isplitl [H]; · iexact H
  iintro %r0 H
  unfold readySt
  icases H with ⟨%hr0, ⟨%f7, %f8, %h78, H⟩, Hm, Hw, H6, Hr0, Hr1, Hr2⟩
  rw [part44_eq]
  iapply (wp_wand_r frame _ _)
  isplitl [H]
  · iapply (mid_step d i arg2 harg2 arg3 harg3 arg4 harg4 arg5 harg5 arg6 harg6 arg7 harg7 arg8 harg8 arg10 harg10 arg9 harg9 arg11 harg11 arg13 arg12 v356_r0 v356_r1 v356_r2 v356_r3 (c := 0) (by omega) (by decide) (by decide) (by decide) (by decide) inb_S16x128_S1x16_0_0 inb_S16x128_S1x16_0_16 inb_S16x128_S1x16_0_32 inb_S16x128_S1x16_0_48 (k0_off9 i) (k0_off22 i) (k0_off9_inb i) (k0_off22_inb i)
      (toWid (k0_off9_eq i)) fx _ _ f7 f8 h78.1 h78.2 r0 hr0 qb qa O W) $$ H
  iintro %r1 ⟨%hr1, H⟩
  rw [part45_eq]
  iapply (wp_wand_r frame _ _)
  isplitl [H]
  · iapply (mid_step d i arg2 harg2 arg3 harg3 arg4 harg4 arg5 harg5 arg6 harg6 arg7 harg7 arg8 harg8 arg9 harg9 arg10 harg10 arg11 harg11 arg12 arg13 v356_r0 v356_r1 v356_r2 v356_r3 (c := 1) (by omega) (by decide) (by decide) (by decide) (by decide) inb_S16x128_S1x16_0_64 inb_S16x128_S1x16_0_80 inb_S16x128_S1x16_0_96 inb_S16x128_S1x16_0_112 (k0_off22 i) (k0_off35 i) (k0_off22_inb i) (k0_off35_inb i)
      (toWid (k0_off22_eq i)) fx _ _ f7 f8 h78.1 h78.2 r1 hr1 qa qb O W) $$ H
  iintro %r2 ⟨%hr2, H⟩
  rw [part46_eq]
  iapply (wp_wand_r frame _ _)
  isplitl [H]
  · iapply (mid_step d i arg2 harg2 arg3 harg3 arg4 harg4 arg5 harg5 arg6 harg6 arg7 harg7 arg8 harg8 arg10 harg10 arg9 harg9 arg11 harg11 arg13 arg12 v356_r0 v356_r1 v356_r2 v356_r3 (c := 2) (by omega) (by decide) (by decide) (by decide) (by decide) inb_S16x128_S1x16_1_0 inb_S16x128_S1x16_1_16 inb_S16x128_S1x16_1_32 inb_S16x128_S1x16_1_48 (k0_off35 i) (k0_off48 i) (k0_off35_inb i) (k0_off48_inb i)
      (toWid (k0_off35_eq i)) fx _ _ f7 f8 h78.1 h78.2 r2 hr2 qb qa O W) $$ H
  iintro %r3 ⟨%hr3, H⟩
  rw [part47_eq]
  iapply (wp_wand_r frame _ _)
  isplitl [H]
  · iapply (mid_step d i arg2 harg2 arg3 harg3 arg4 harg4 arg5 harg5 arg6 harg6 arg7 harg7 arg8 harg8 arg9 harg9 arg10 harg10 arg11 harg11 arg12 arg13 v356_r0 v356_r1 v356_r2 v356_r3 (c := 3) (by omega) (by decide) (by decide) (by decide) (by decide) inb_S16x128_S1x16_1_64 inb_S16x128_S1x16_1_80 inb_S16x128_S1x16_1_96 inb_S16x128_S1x16_1_112 (k0_off48 i) (k0_off61 i) (k0_off48_inb i) (k0_off61_inb i)
      (toWid (k0_off48_eq i)) fx _ _ f7 f8 h78.1 h78.2 r3 hr3 qa qb O W) $$ H
  iintro %r4 ⟨%hr4, H⟩
  rw [part48_eq]
  iapply (wp_wand_r frame _ _)
  isplitl [H]
  · iapply (mid_step d i arg2 harg2 arg3 harg3 arg4 harg4 arg5 harg5 arg6 harg6 arg7 harg7 arg8 harg8 arg10 harg10 arg9 harg9 arg11 harg11 arg13 arg12 v356_r0 v356_r1 v356_r2 v356_r3 (c := 4) (by omega) (by decide) (by decide) (by decide) (by decide) inb_S16x128_S1x16_2_0 inb_S16x128_S1x16_2_16 inb_S16x128_S1x16_2_32 inb_S16x128_S1x16_2_48 (k0_off61 i) (k0_off74 i) (k0_off61_inb i) (k0_off74_inb i)
      (toWid (k0_off61_eq i)) fx _ _ f7 f8 h78.1 h78.2 r4 hr4 qb qa O W) $$ H
  iintro %r5 ⟨%hr5, H⟩
  rw [part49_eq]
  iapply (wp_wand_r frame _ _)
  isplitl [H]
  · iapply (mid_step d i arg2 harg2 arg3 harg3 arg4 harg4 arg5 harg5 arg6 harg6 arg7 harg7 arg8 harg8 arg9 harg9 arg10 harg10 arg11 harg11 arg12 arg13 v356_r0 v356_r1 v356_r2 v356_r3 (c := 5) (by omega) (by decide) (by decide) (by decide) (by decide) inb_S16x128_S1x16_2_64 inb_S16x128_S1x16_2_80 inb_S16x128_S1x16_2_96 inb_S16x128_S1x16_2_112 (k0_off74 i) (k0_off87 i) (k0_off74_inb i) (k0_off87_inb i)
      (toWid (k0_off74_eq i)) fx _ _ f7 f8 h78.1 h78.2 r5 hr5 qa qb O W) $$ H
  iintro %r6 ⟨%hr6, H⟩
  rw [part50_eq]
  iapply (wp_wand_r frame _ _)
  isplitl [H]
  · iapply (mid_step d i arg2 harg2 arg3 harg3 arg4 harg4 arg5 harg5 arg6 harg6 arg7 harg7 arg8 harg8 arg10 harg10 arg9 harg9 arg11 harg11 arg13 arg12 v356_r0 v356_r1 v356_r2 v356_r3 (c := 6) (by omega) (by decide) (by decide) (by decide) (by decide) inb_S16x128_S1x16_3_0 inb_S16x128_S1x16_3_16 inb_S16x128_S1x16_3_32 inb_S16x128_S1x16_3_48 (k0_off87 i) (k0_off100 i) (k0_off87_inb i) (k0_off100_inb i)
      (toWid (k0_off87_eq i)) fx _ _ f7 f8 h78.1 h78.2 r6 hr6 qb qa O W) $$ H
  iintro %r7 ⟨%hr7, H⟩
  rw [part51_eq]
  iapply (wp_wand_r frame _ _)
  isplitl [H]
  · iapply (mid_step d i arg2 harg2 arg3 harg3 arg4 harg4 arg5 harg5 arg6 harg6 arg7 harg7 arg8 harg8 arg9 harg9 arg10 harg10 arg11 harg11 arg12 arg13 v356_r0 v356_r1 v356_r2 v356_r3 (c := 7) (by omega) (by decide) (by decide) (by decide) (by decide) inb_S16x128_S1x16_3_64 inb_S16x128_S1x16_3_80 inb_S16x128_S1x16_3_96 inb_S16x128_S1x16_3_112 (k0_off100 i) (k0_off113 i) (k0_off100_inb i) (k0_off113_inb i)
      (toWid (k0_off100_eq i)) fx _ _ f7 f8 h78.1 h78.2 r7 hr7 qa qb O W) $$ H
  iintro %r8 ⟨%hr8, H⟩
  rw [part52_eq]
  iapply (wp_wand_r frame _ _)
  isplitl [H]
  · iapply (mid_step d i arg2 harg2 arg3 harg3 arg4 harg4 arg5 harg5 arg6 harg6 arg7 harg7 arg8 harg8 arg10 harg10 arg9 harg9 arg11 harg11 arg13 arg12 v356_r0 v356_r1 v356_r2 v356_r3 (c := 8) (by omega) (by decide) (by decide) (by decide) (by decide) inb_S16x128_S1x16_4_0 inb_S16x128_S1x16_4_16 inb_S16x128_S1x16_4_32 inb_S16x128_S1x16_4_48 (k0_off113 i) (k0_off126 i) (k0_off113_inb i) (k0_off126_inb i)
      (toWid (k0_off113_eq i)) fx _ _ f7 f8 h78.1 h78.2 r8 hr8 qb qa O W) $$ H
  iintro %r9 ⟨%hr9, H⟩
  rw [part53_eq]
  iapply (wp_wand_r frame _ _)
  isplitl [H]
  · iapply (mid_step d i arg2 harg2 arg3 harg3 arg4 harg4 arg5 harg5 arg6 harg6 arg7 harg7 arg8 harg8 arg9 harg9 arg10 harg10 arg11 harg11 arg12 arg13 v356_r0 v356_r1 v356_r2 v356_r3 (c := 9) (by omega) (by decide) (by decide) (by decide) (by decide) inb_S16x128_S1x16_4_64 inb_S16x128_S1x16_4_80 inb_S16x128_S1x16_4_96 inb_S16x128_S1x16_4_112 (k0_off126 i) (k0_off139 i) (k0_off126_inb i) (k0_off139_inb i)
      (toWid (k0_off126_eq i)) fx _ _ f7 f8 h78.1 h78.2 r9 hr9 qa qb O W) $$ H
  iintro %r10 ⟨%hr10, H⟩
  rw [part54_eq]
  iapply (wp_wand_r frame _ _)
  isplitl [H]
  · iapply (mid_step d i arg2 harg2 arg3 harg3 arg4 harg4 arg5 harg5 arg6 harg6 arg7 harg7 arg8 harg8 arg10 harg10 arg9 harg9 arg11 harg11 arg13 arg12 v356_r0 v356_r1 v356_r2 v356_r3 (c := 10) (by omega) (by decide) (by decide) (by decide) (by decide) inb_S16x128_S1x16_5_0 inb_S16x128_S1x16_5_16 inb_S16x128_S1x16_5_32 inb_S16x128_S1x16_5_48 (k0_off139 i) (k0_off152 i) (k0_off139_inb i) (k0_off152_inb i)
      (toWid (k0_off139_eq i)) fx _ _ f7 f8 h78.1 h78.2 r10 hr10 qb qa O W) $$ H
  iintro %r11 ⟨%hr11, H⟩
  iapply (wp_wand_r frame _ _)
  isplitl [H H5 Hr3]
  · iapply (finish_spec d i arg2 harg2 arg3 harg3 arg4 harg4 arg5 harg5 arg6 harg6 arg7 harg7 arg8 harg8 arg9 harg9 arg10 harg10 arg11 harg11 arg12 arg13 v356_r0 v356_r1 v356_r2 v356_r3 fx _ _ f7 f8 h78.1 h78.2 r11 hr11 qa qb O W f5)
    isplitl [H]; · iexact H
    isplitl [Hr3]; · iexact Hr3
    iexact H5
  iintro %_ H
  unfold doneSt
  icases H with ⟨Hxa, Hxb, H5, H7, H8, H9, H10, H11, Hs12, Hs13, Hr3, HO⟩
  isplitl [Hxa]; · iexact Hxa
  isplitl [Hxb]; · iexact Hxb
  isplitl [Hm]; · iexact Hm
  isplitl [Hw]; · iexact Hw
  isplitl [H5]; · iexact H5
  isplitr [HO]
  · isplitl [H6]; · iexact H6
    isplitl [H7]; · iexact H7
    isplitl [H8]; · iexact H8
    isplitl [H9]; · iexact H9
    isplitl [H10]; · iexact H10
    isplitl [H11]; · iexact H11
    isplitl [Hs12]; · iexact Hs12
    isplitl [Hs13]; · iexact Hs13
    isplitl [Hr0]; · iexact Hr0
    isplitl [Hr1]; · iexact Hr1
    isplitl [Hr2]; · iexact Hr2
    iexact Hr3
  · iexact HO

end Cert.KernelIdeal.Tile
end
-- ==== Proof.Ideal.Launch.lean ====
/-
  THE LAUNCH, the SparseCore call's part: the program as the launch theorem sees it, what the call hands each tile and takes back (`P`), the tile's
  obligation from `tile_spec`, and the split of a SparseCore's share among its tiles.
-/
module

public import proofs.«01_k».proof.Proof.Ideal.Whole
public import Idealize.ShloMosaic.Lib.SparseCore.Quiescent
public import Idealize.ShloMosaic.Lib.StableHlo.Run

@[expose] public section

noncomputable section

namespace Cert.KernelIdeal.Tile

open Cert.KernelIdeal Cert.KernelIdeal.Gen
open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the pipelines' -/

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## Tiles by number -/

/-- The tile `(c, i)` of the call. -/
def coordsV (c : Fin (grid0.bound 0)) (s : Fin (grid0.bound 1)) : grid0.Coords := fun | 0 => c | 1 => s | ⟨_ + 2, h⟩ => absurd h (Nat.not_lt.2 (Nat.le_add_left _ _))

/-- The tile's number. -/
def pOf (c : Fin 2) (s : Fin 16) : Fin 32 := ⟨c.val + 2 * s.val, by omega⟩

omit [FloatOps F] in
theorem wid_coordsV (c : Fin 2) (s : Fin 16) : wid (coordsV c s) = (pOf c s).val := by
  show 2 * s.val + c.val = c.val + 2 * s.val
  omega

/-- A family over the thirty-two tiles is one over the two cores' sixteen subcores. -/
theorem bigSep_tiles (Φ : Fin 32 → sProp 𝕄) :
    bigSep Finset.univ Φ = bigSep Finset.univ fun c : Fin 2 => bigSep Finset.univ fun s : Fin 16 => Φ (pOf c s) := by
  rw [← bigSep_univ_prod (fun x : Fin 2 × Fin 16 => Φ (pOf x.1 x.2)), bigSep_univ_equiv ((Equiv.prodComm (Fin 2) (Fin 16)).trans finProdFinEquiv) Φ]
  refine bigSep_congr fun x _ => ?_
  congr 1

/-! ## What the call hands over -/

variable (m : (ℓ : Loc nD τ sig) → Buf (Elt F) ℓ)

abbrev xLoc (d : Dev nD) : Loc nD τ sig := (SparseCore.T d).loc main_arg0
abbrev mLoc (d : Dev nD) : Loc nD τ sig := (SparseCore.T d).loc main_arg1
abbrev wLoc (d : Dev nD) : Loc nD τ sig := (SparseCore.T d).loc main_arg2
abbrev oLoc (d : Dev nD) : Loc nD τ sig := (SparseCore.T d).loc main_v0

/-- Row `p` of the shared result. -/
def rowSet (p : Fin 32) : Finset S32x16x128.Idx := Finset.univ.filter fun j => (j 0).val = p.val

/-- Row `p` of contents `f`. -/
def rowOf {α : Type} (p : Fin 32) (f : S32x16x128.Idx → α) : S16x128.Idx → α := fun j => f (ix3 p (j 0) (j 1))

/-- What tile `p` leaves in its row: its 52 sums. -/
def RowOK (d : Dev nD) (p : Fin 32) (f : S32x16x128.Idx → F .f32) : Prop :=
  PartOK (tileVals (m (xLoc d)) (m (mLoc d)) (m (wLoc d)) p.val) 52 (rowOf p f)

/-- The read shares of the inputs tile `p` gets. -/
def inPts (d : Dev nD) (p : Fin 32) : sProp 𝕄 :=
  iprop((xLoc d ↦{Transfers.shareTok fullShare 32 p} m (xLoc d)) ∗ (mLoc d ↦{Transfers.shareTok fullShare 32 p} m (mLoc d))
    ∗ (wLoc d ↦{Transfers.shareTok fullShare 32 p} m (wLoc d)))

def goPts (d : Dev nD) (p : Fin 32) : sProp 𝕄 := iprop(inPts m d p ∗ oLoc d ↦[rowSet p]{fullShare} m (oLoc d))
def tdPts (d : Dev nD) (p : Fin 32) : sProp 𝕄 := iprop(inPts m d p ∗ ∃ f, ⌜RowOK m d p f⌝ ∗ oLoc d ↦[rowSet p]{fullShare} f)

instance goPts_storable (d : Dev nD) (p : Fin 32) : BI.Storable (upEmb : UEmb _ 𝕄) (goPts m d p) := by unfold goPts inPts; infer_instance
instance tdPts_storable (d : Dev nD) (p : Fin 32) : BI.Storable (upEmb : UEmb _ 𝕄) (tdPts m d p) := by unfold tdPts inPts; infer_instance

def P : (K (F := F)).Pay (nD := nD) (Val := Elt F) (Name := ℕ) (U := UU) where
  st := fun q d => match q with | 0 => fun c : Fin 2 => bigSep Finset.univ fun s : Fin 16 => goPts m d (pOf c s)
  dn := fun q d => match q with | 0 => fun c : Fin 2 => bigSep Finset.univ fun s : Fin 16 => tdPts m d (pOf c s)
  go := fun q d => match q with | 0 => fun (c : Fin 2) (s : Fin 16) => goPts m d (pOf c s)
  td := fun q d => match q with | 0 => fun (c : Fin 2) (s : Fin 16) => tdPts m d (pOf c s)
  x := fun _ _ => iprop(emp)

instance P_storable : (P (F := F) m).IsStorable where
  st q d c := by match q with | 0 => (unfold P; dsimp only; infer_instance)
  dn q d c := by match q with | 0 => (unfold P; dsimp only; infer_instance)
  go q d c s := by match q with | 0 => (unfold P; dsimp only; infer_instance)
  td q d c s := by match q with | 0 => (unfold P; dsimp only; infer_instance)

/-! ## The tile's memrefs -/

section Tile

variable (d : Dev nD) (c : Fin 2) (s : Fin 16)

omit [FloatOps F] in
theorem set_oSlice : (oSlice (coordsV c s) (Memref.whole main_v0_scv)).view.set = rowSet (pOf c s) := by
  show (((Memref.whole main_v0_scv : Memref sig .scVector .hbm S32x16x128 .f32).view.slice
    (Rect.unit (s := S32x16x128) (k0_off177 (coordsV c s)) S1x16x128.size (k0_off177_inb (coordsV c s)))).reshape S16x128 squeezes_S1x16x128_S16x128.numel_eq).set = _
  rw [View.set_reshape]
  refine (View.set_slice_whole _ _).trans ?_
  ext j
  have e0 : (j 0).val < 32 := (j 0).isLt
  have e1 : (j 1).val < 16 := (j 1).isLt
  have e2 : (j 2).val < 128 := (j 2).isLt
  rw [Rect.mem_set_unit, k0_off177_eq]
  simp only [rowSet, Finset.mem_filter, Finset.mem_univ, true_and]
  have hp : (pOf c s).val = 2 * s.val + c.val := by show c.val + 2 * s.val = _; omega
  constructor
  · intro h
    have := h 0
    simp [coordsV, S1x16x128] at this
    omega
  · intro h a
    match a with
    | 0 => simp [coordsV, S1x16x128]; omega
    | 1 => simp [S1x16x128]; exact e1
    | 2 => simp [S1x16x128]; exact e2

omit [FloatOps F] in
theorem oSlice_read (f : S32x16x128.Idx → F .f32) :
    (oSlice (coordsV c s) (Memref.whole main_v0_scv)).view.read (Elt F) f = rowOf (pOf c s) f := by
  funext j
  have hsc : S1x16x128.ShapeCasts S16x128 := by decide
  refine (congrFun (Memref.read_squeeze_slice (Memref.whole main_v0_scv : Memref sig .scVector .hbm S32x16x128 .f32) _ (fun _ => rfl) squeezes_S1x16x128_S16x128 hsc (show (Memref.whole main_v0_scv : Memref sig .scVector .hbm S32x16x128 .f32).view.ty.Contents (Elt F) from f)) j).trans ?_
  refine (shapeCast_apply _ hsc j (ix3 0 (j 0) (j 1)) ?_).trans ?_
  · rw [Shape.rowMajor_val_three, Shape.rowMajor_val_two]; simp
  · rw [View.readAt_apply]; unfold rowOf
    show f _ = f _
    congr 1
    have h := fun a => congrFun (k0_off177_eq (coordsV c s)) a
    funext a; apply Fin.ext
    match a with
    | ⟨0, _⟩ => exact (congrArg (· + 1 * 0) (h 0)).trans (show 2 * s.val + c.val + 1 * 0 = c.val + 2 * s.val by omega)
    | ⟨1, _⟩ => exact (congrArg (· + 1 * (j 0).val) (h 1)).trans (show 0 + 1 * (j 0).val = (j 0).val by omega)
    | ⟨2, _⟩ => exact (congrArg (· + 1 * (j 1).val) (h 2)).trans (show 0 + 1 * (j 1).val = (j 1).val by omega)

/-- A semaphore of the tile, as a cell. -/
abbrev cell (b : DmaSems sig S_) : GSem nD τ sig := (thrV d (coordsV c s), .dma b.sem)

omit [FloatOps F] in
theorem cell_mem (b : DmaSems sig S_) (h : (SemLoc.dma b.sem : SemLoc sig).isScoped .scVector = true) : cell d c s b ∈ ownCells (thrV d (coordsV c s)) :=
  mem_ownCells.mpr ⟨rfl, h⟩

omit [FloatOps F] in
theorem cell_ne {a b : DmaSems sig S_} (h : a.sem ≠ b.sem) : cell d c s a ≠ cell d c s b := fun e => h (by simpa [cell] using e)

omit [FloatOps F] in
theorem ownSems0_V :
    (ownSems0 (thrV d (coordsV c s)) : sProp 𝕄)
      = iprop(semVal (cell d c s cc0_scratch6) 0 ∗ semVal (cell d c s cc0_scratch7) 0 ∗ semVal (cell d c s cc0_scoped0) 0 ∗ semVal (cell d c s cc0_scoped1) 0 ∗ semVal (cell d c s cc0_scoped2) 0 ∗ semVal (cell d c s cc0_scoped3) 0
          ∗ bigSep (((((((ownCells (thrV d (coordsV c s))).erase (cell d c s cc0_scratch6)).erase (cell d c s cc0_scratch7)).erase (cell d c s cc0_scoped0)).erase (cell d c s cc0_scoped1)).erase (cell d c s cc0_scoped2)).erase (cell d c s cc0_scoped3)) fun g => semVal g 0) := by
  unfold SparseCore.Cfg.ownSems0
  rw [SparseCore.bigSep_erase' (cell_mem d c s cc0_scratch6 (by decide)),
    SparseCore.bigSep_erase' (Finset.mem_erase.mpr ⟨cell_ne d c s (show cc0_scratch7.sem ≠ cc0_scratch6.sem by decide), (cell_mem d c s cc0_scratch7 (by decide))⟩),
    SparseCore.bigSep_erase' (Finset.mem_erase.mpr ⟨cell_ne d c s (show cc0_scoped0.sem ≠ cc0_scratch7.sem by decide), (Finset.mem_erase.mpr ⟨cell_ne d c s (show cc0_scoped0.sem ≠ cc0_scratch6.sem by decide), (cell_mem d c s cc0_scoped0 (by decide))⟩)⟩),
    SparseCore.bigSep_erase' (Finset.mem_erase.mpr ⟨cell_ne d c s (show cc0_scoped1.sem ≠ cc0_scoped0.sem by decide), (Finset.mem_erase.mpr ⟨cell_ne d c s (show cc0_scoped1.sem ≠ cc0_scratch7.sem by decide), (Finset.mem_erase.mpr ⟨cell_ne d c s (show cc0_scoped1.sem ≠ cc0_scratch6.sem by decide), (cell_mem d c s cc0_scoped1 (by decide))⟩)⟩)⟩),
    SparseCore.bigSep_erase' (Finset.mem_erase.mpr ⟨cell_ne d c s (show cc0_scoped2.sem ≠ cc0_scoped1.sem by decide), (Finset.mem_erase.mpr ⟨cell_ne d c s (show cc0_scoped2.sem ≠ cc0_scoped0.sem by decide), (Finset.mem_erase.mpr ⟨cell_ne d c s (show cc0_scoped2.sem ≠ cc0_scratch7.sem by decide), (Finset.mem_erase.mpr ⟨cell_ne d c s (show cc0_scoped2.sem ≠ cc0_scratch6.sem by decide), (cell_mem d c s cc0_scoped2 (by decide))⟩)⟩)⟩)⟩),
    SparseCore.bigSep_erase' (Finset.mem_erase.mpr ⟨cell_ne d c s (show cc0_scoped3.sem ≠ cc0_scoped2.sem by decide), (Finset.mem_erase.mpr ⟨cell_ne d c s (show cc0_scoped3.sem ≠ cc0_scoped1.sem by decide), (Finset.mem_erase.mpr ⟨cell_ne d c s (show cc0_scoped3.sem ≠ cc0_scoped0.sem by decide), (Finset.mem_erase.mpr ⟨cell_ne d c s (show cc0_scoped3.sem ≠ cc0_scratch7.sem by decide), (Finset.mem_erase.mpr ⟨cell_ne d c s (show cc0_scoped3.sem ≠ cc0_scratch6.sem by decide), (cell_mem d c s cc0_scoped3 (by decide))⟩)⟩)⟩)⟩)⟩)]

/-- A buffer of the tile, by its reference. -/
abbrev own (b : Ref sig .scVector) : DevRef τ sig := (Proc.scVector ((coordsV c s 0).castLE hcore0) ((coordsV c s 1).castLE hsub0)).devRef b

omit [FloatOps F] in
theorem own_ne {a b : Ref sig .scVector} (h : a ≠ b) : own c s a ≠ own c s b := fun e => h (Proc.devRef_injective _ e)

omit [FloatOps F] in
theorem ownBufs_V :
    (ownBufs (thrV d (coordsV c s)) : sProp 𝕄)
      = iprop((∃ f, (thrV d (coordsV c s)).loc cc0_scratch0 ↦{fullShare} f) ∗ (∃ f, (thrV d (coordsV c s)).loc cc0_scratch1 ↦{fullShare} f) ∗ (∃ f, (thrV d (coordsV c s)).loc cc0_scratch2 ↦{fullShare} f) ∗ (∃ f, (thrV d (coordsV c s)).loc cc0_scratch3 ↦{fullShare} f) ∗ (∃ f, (thrV d (coordsV c s)).loc cc0_scratch4 ↦{fullShare} f) ∗ (∃ f, (thrV d (coordsV c s)).loc cc0_scratch5 ↦{fullShare} f)
          ∗ bigSep (((((((ownRefs (τ := τ) (.scVector ((coordsV c s 0).castLE hcore0) ((coordsV c s 1).castLE hsub0))).erase (own c s cc0_scratch0)).erase (own c s cc0_scratch1)).erase (own c s cc0_scratch2)).erase (own c s cc0_scratch3)).erase (own c s cc0_scratch4)).erase (own c s cc0_scratch5))
              fun b => iprop(∃ f, ((d, b) : Loc nD τ sig) ↦{fullShare} f)) := by
  unfold SparseCore.Cfg.ownBufs
  refine (SparseCore.bigSep_erase' ((SparseCore.Cfg.mem_ownRefs_of_owner (p := Proc.scVector ((coordsV c s 0).castLE hcore0) ((coordsV c s 1).castLE hsub0)) (b := own c s cc0_scratch0) rfl))).trans ?_
  rw [SparseCore.bigSep_erase' (Finset.mem_erase.mpr ⟨own_ne c s (show (cc0_scratch1 : Ref sig .scVector) ≠ cc0_scratch0 by decide), (SparseCore.Cfg.mem_ownRefs_of_owner (p := Proc.scVector ((coordsV c s 0).castLE hcore0) ((coordsV c s 1).castLE hsub0)) (b := own c s cc0_scratch1) rfl)⟩),
    SparseCore.bigSep_erase' (Finset.mem_erase.mpr ⟨own_ne c s (show (cc0_scratch2 : Ref sig .scVector) ≠ cc0_scratch1 by decide), (Finset.mem_erase.mpr ⟨own_ne c s (show (cc0_scratch2 : Ref sig .scVector) ≠ cc0_scratch0 by decide), (SparseCore.Cfg.mem_ownRefs_of_owner (p := Proc.scVector ((coordsV c s 0).castLE hcore0) ((coordsV c s 1).castLE hsub0)) (b := own c s cc0_scratch2) rfl)⟩)⟩),
    SparseCore.bigSep_erase' (Finset.mem_erase.mpr ⟨own_ne c s (show (cc0_scratch3 : Ref sig .scVector) ≠ cc0_scratch2 by decide), (Finset.mem_erase.mpr ⟨own_ne c s (show (cc0_scratch3 : Ref sig .scVector) ≠ cc0_scratch1 by decide), (Finset.mem_erase.mpr ⟨own_ne c s (show (cc0_scratch3 : Ref sig .scVector) ≠ cc0_scratch0 by decide), (SparseCore.Cfg.mem_ownRefs_of_owner (p := Proc.scVector ((coordsV c s 0).castLE hcore0) ((coordsV c s 1).castLE hsub0)) (b := own c s cc0_scratch3) rfl)⟩)⟩)⟩),
    SparseCore.bigSep_erase' (Finset.mem_erase.mpr ⟨own_ne c s (show (cc0_scratch4 : Ref sig .scVector) ≠ cc0_scratch3 by decide), (Finset.mem_erase.mpr ⟨own_ne c s (show (cc0_scratch4 : Ref sig .scVector) ≠ cc0_scratch2 by decide), (Finset.mem_erase.mpr ⟨own_ne c s (show (cc0_scratch4 : Ref sig .scVector) ≠ cc0_scratch1 by decide), (Finset.mem_erase.mpr ⟨own_ne c s (show (cc0_scratch4 : Ref sig .scVector) ≠ cc0_scratch0 by decide), (SparseCore.Cfg.mem_ownRefs_of_owner (p := Proc.scVector ((coordsV c s 0).castLE hcore0) ((coordsV c s 1).castLE hsub0)) (b := own c s cc0_scratch4) rfl)⟩)⟩)⟩)⟩),
    SparseCore.bigSep_erase' (Finset.mem_erase.mpr ⟨own_ne c s (show (cc0_scratch5 : Ref sig .scVector) ≠ cc0_scratch4 by decide), (Finset.mem_erase.mpr ⟨own_ne c s (show (cc0_scratch5 : Ref sig .scVector) ≠ cc0_scratch3 by decide), (Finset.mem_erase.mpr ⟨own_ne c s (show (cc0_scratch5 : Ref sig .scVector) ≠ cc0_scratch2 by decide), (Finset.mem_erase.mpr ⟨own_ne c s (show (cc0_scratch5 : Ref sig .scVector) ≠ cc0_scratch1 by decide), (Finset.mem_erase.mpr ⟨own_ne c s (show (cc0_scratch5 : Ref sig .scVector) ≠ cc0_scratch0 by decide), (SparseCore.Cfg.mem_ownRefs_of_owner (p := Proc.scVector ((coordsV c s 0).castLE hcore0) ((coordsV c s 1).castLE hsub0)) (b := own c s cc0_scratch5) rfl)⟩)⟩)⟩)⟩)⟩)]

/-! ## The tile's task as the launch wants it -/

theorem tile_body (hF : (K (F := F)).Facts) (O : CellTallies nD τ sig (HIx 1)) (W : Waits sig (HIx 1)) (hO : ∀ g, O g none = 0) :
    iprop(levAts (K (F := F)).L (K (F := F)).lev ∗ emp ∗ goPts m d (pOf c s)
        ∗ scopedBufs (thrV d (coordsV c s)) ∗ scopedSems0 (thrV d (coordsV c s)) ∗ owes (thrV d (coordsV c s)) O W)
      ⊢ wp frame (wpE (defs₀ (F := F)) 𝒱₀ (thrV d (coordsV c s)) none) Set.univ
          (cc0__sc_body (coordsV c s) (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3)
          fun _ => iprop(tdPts m d (pOf c s) ∗ scopedBufs (thrV d (coordsV c s)) ∗ scopedSems0 (thrV d (coordsV c s))
            ∗ ∃ W', ⌜∀ p ∈ W', p ∈ W ∨ p.2 = none⌝ ∗ owes (thrV d (coordsV c s)) O W') := by
  rw [(K (F := F)).scopedBufs_V hF d ((coordsV c s 0).castLE hcore0) ((coordsV c s 1).castLE hsub0),
    SparseCore.Cfg.scopedSems0_V (Val := Elt F) d ((coordsV c s 0).castLE hcore0) ((coordsV c s 1).castLE hsub0), ownSems0_V, ownBufs_V]
  unfold goPts tdPts inPts
  iintro ⟨#Hlv, -, ⟨⟨Hx, Hm, Hw⟩, Ho⟩, ⟨H0, H1, H2, H3, H4, H5, Hbufs⟩, ⟨S0, S1, S2, S3, S4, S5, Hsems⟩, HO⟩
  ihave Hmw := ((K (F := F)).mayWaits_none (thr := thrV d (coordsV c s)) hO) $$ Hlv
  ihave Hx' := ((pointsTo_share (PosShare.mem_left_op_right _)).1) $$ Hx
  icases Hx' with ⟨Hxa, Hxb⟩
  iapply (wp_wand_r frame _ _)
  isplitl [Hmw Hxa Hxb Hm Hw Ho H0 H1 H2 H3 H4 H5 S0 S1 S2 S3 S4 S5 HO]
  · iapply (tile_spec d (coordsV c s) (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3 (m (xLoc d)) (m (mLoc d)) (m (wLoc d)) (m (oLoc d)) (Transfers.shareTok fullShare 32 (pOf c s)).left (Transfers.shareTok fullShare 32 (pOf c s)).right (Transfers.shareTok fullShare 32 (pOf c s)) (Transfers.shareTok fullShare 32 (pOf c s)) O W)
    isplitl [Hmw]; · iexact Hmw
    isplitl [Hxa]; · iexact Hxa
    isplitl [Hxb]; · iexact Hxb
    isplitl [Hm]; · iexact Hm
    isplitl [Hw]; · iexact Hw
    isplitl [Ho]; · rw [set_oSlice]; iexact Ho
    isplitr [HO]
    · unfold ownSt
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      isplitl [S4]; · iexact S4
      iexact S5
    · unfold owesN
      iexists W; isplitr
      · ipureintro; exact fun p hp => .inl hp
      · iexact HO
  iintro %_ ⟨Hxa, Hxb, Hm, Hw, ⟨%f, %hf, Ho⟩, Hown, HO⟩
  unfold ownSt
  icases Hown with ⟨H0, H1, H2, H3, H4, H5, S0, S1, S2, S3, S4, S5⟩
  isplitl [Hxa Hxb Hm Hw Ho]
  · isplitl [Hxa Hxb Hm Hw]
    · isplitl [Hxa Hxb]
      · iapply ((pointsTo_share (PosShare.mem_left_op_right _)).2)
        isplitl [Hxa] <;> iassumption
      isplitl [Hm] <;> iassumption
    · iexists f; isplitr
      · ipureintro
        have hr := oSlice_read (F := F) c s f
        rw [hr, wid_coordsV] at hf
        exact hf
      · rw [set_oSlice]; iexact Ho
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [S0 S1 S2 S3 S4 S5 Hsems]
  · isplitl [S0]; · iexact S0
    isplitl [S1]; · iexact S1
    isplitl [S2]; · iexact S2
    isplitl [S3]; · iexact S3
    isplitl [S4]; · iexact S4
    isplitl [S5]; · iexact S5
    iexact Hsems
  unfold owesN
  iexact HO

end Tile

/-! ## The launch theorem's obligations for the call -/

theorem defs₀_vector (c : Fin τ.nSC) (s : Fin τ.nSub) :
    defs₀ (F := F) (.scVector c s) 0 ()
      = SparseCore.onTile hcore0 hsub0 (fun c s => cc0__sc_body (coordsV c s) (Memref.whole main_arg0_scv) (Memref.isWhole_whole _) (Memref.whole main_arg1_scv) (Memref.isWhole_whole _) (Memref.whole main_arg2_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d c i facts O W hO).trans (wp_mono frame _ _ fun _ => obl_post)

theorem vecSplit : (K (F := F)).VecSplit' (P m) 0 := by
  intro d c
  show (bigSep Finset.univ fun s : Fin 16 => goPts m d (pOf c s)) ⊢ |={Set.univ}=> iprop((bigSep Finset.univ fun s : Fin 16 => goPts m d (pOf c s))
    ∗ ((bigSep Finset.univ fun s : Fin 16 => tdPts m d (pOf c s)) -∗ bigSep Finset.univ fun s : Fin 16 => tdPts m d (pOf c s)))
  iintro H
  imodintro
  isplitl [H]; · iexact H
  iintro H; iexact H

end Cert.KernelIdeal.Tile
-- ==== Proof.Ideal.Deal.lean ====
/-
  THE CALL'S ARRAYS dealt among the thirty-two tiles and collected again: each input by read shares, the partial sums by rows.
-/
module

public import proofs.«01_k».proof.Proof.Ideal.Launch
public import Idealize.SL.ProofMode.BigOp

@[expose] public section

noncomputable section

namespace Cert.KernelIdeal.Tile

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- What stays with the caller of the inputs. -/
def keepPts (d : Dev nD) : sProp 𝕄 :=
  iprop((xLoc d ↦{Transfers.shareDrop fullShare 32} m (xLoc d)) ∗ (mLoc d ↦{Transfers.shareDrop fullShare 32} m (mLoc d))
    ∗ (wLoc d ↦{Transfers.shareDrop fullShare 32} m (wLoc d)))

/-- The inputs at the full share. -/
def fullPts (d : Dev nD) : sProp 𝕄 :=
  iprop((xLoc d ↦{fullShare} m (xLoc d)) ∗ (mLoc d ↦{fullShare} m (mLoc d)) ∗ (wLoc d ↦{fullShare} m (wLoc d)))

/-- Tiles' rows are disjoint, -/
theorem rowSet_disjoint : ∀ p ∈ (Finset.univ : Finset (Fin 32)), ∀ p' ∈ (Finset.univ : Finset (Fin 32)), p ≠ p' → Disjoint (rowSet p) (rowSet p') :=
  fun p _ p' _ h => Finset.disjoint_left.mpr fun j hj hj' =>
    h (Fin.ext (((Finset.mem_filter.mp hj).2).symm.trans (Finset.mem_filter.mp hj').2))

/-- and all of the array. -/
theorem rowSet_cover : (Finset.univ : Finset (Fin 32)).biUnion rowSet = (Finset.univ : Finset S32x16x128.Idx) :=
  Finset.eq_univ_iff_forall.mpr fun j => Finset.mem_biUnion.mpr ⟨⟨(j 0).val, (j 0).isLt⟩, Finset.mem_univ _, Finset.mem_filter.mpr ⟨Finset.mem_univ _, rfl⟩⟩

/-- The inputs dealt. -/
theorem deal_in (d : Dev nD) : fullPts m d ⊢ (iprop(keepPts m d ∗ bigSep Finset.univ fun p : Fin 32 => inPts m d p) : sProp 𝕄) := by
  unfold fullPts keepPts inPts
  rw [bigSep_sep', bigSep_sep']
  iintro ⟨Hx, Hm, Hw⟩
  ihave Hx := (Transfers.pointsTo_toks_split fullShare 32) $$ Hx
  ihave Hm := (Transfers.pointsTo_toks_split fullShare 32) $$ Hm
  ihave Hw := (Transfers.pointsTo_toks_split fullShare 32) $$ Hw
  icases Hx with ⟨Hx, Hxs⟩
  icases Hm with ⟨Hm, Hms⟩
  icases Hw with ⟨Hw, Hws⟩
  isplitl [Hx Hm Hw]
  · isplitl [Hx]; · iexact Hx
    isplitl [Hm]; · iexact Hm
    iexact Hw
  isplitl [Hxs]; · iexact Hxs
  isplitl [Hms]; · iexact Hms
  iexact Hws

/-- The inputs collected. -/
theorem collect_in (d : Dev nD) : (iprop(keepPts m d ∗ bigSep Finset.univ fun p : Fin 32 => inPts m d p) : sProp 𝕄) ⊢ fullPts m d := by
  unfold fullPts keepPts inPts
  rw [bigSep_sep', bigSep_sep']
  iintro ⟨⟨Hx, Hm, Hw⟩, Hxs, Hms, Hws⟩
  isplitl [Hx Hxs]; · iapply (Transfers.pointsTo_toks_join fullShare 32); isplitl [Hx] <;> iassumption
  isplitl [Hm Hms]; · iapply (Transfers.pointsTo_toks_join fullShare 32); isplitl [Hm] <;> iassumption
  iapply (Transfers.pointsTo_toks_join fullShare 32); isplitl [Hw] <;> iassumption

/-- The whole array, by rows. -/
theorem rows_pts (d : Dev nD) (f : Buf (Elt F) (oLoc d)) :
    (oLoc d ↦{fullShare} f : sProp 𝕄) = bigSep Finset.univ fun p : Fin 32 => oLoc d ↦[rowSet p]{fullShare} f :=
  (congrArg (fun S : Finset S32x16x128.Idx => (oLoc d ↦[S]{fullShare} f : sProp 𝕄)) rowSet_cover.symm).trans
    (pointsTo_biUnion (ℓ := oLoc d) Finset.univ rowSet rowSet_disjoint)

/-- What the call takes, from the whole arrays. -/
theorem deal (d : Dev nD) : (iprop(fullPts m d ∗ oLoc d ↦{fullShare} m (oLoc d)) : sProp 𝕄)
    ⊢ iprop(keepPts m d ∗ bigSep Finset.univ fun c : Fin 2 => bigSep Finset.univ fun s : Fin 16 => goPts m d (pOf c s)) := by
  rw [← bigSep_tiles (fun p => goPts m d p)]
  unfold goPts
  rw [bigSep_sep', show (oLoc d ↦{fullShare} m (oLoc d) : sProp 𝕄) = bigSep Finset.univ fun p : Fin 32 => oLoc d ↦[rowSet p]{fullShare} m (oLoc d) from
    rows_pts d _]
  iintro ⟨Hi, Ho⟩
  ihave Hi := (deal_in m d) $$ Hi
  icases Hi with ⟨Hk, Hi⟩
  isplitl [Hk]; · iexact Hk
  isplitl [Hi] <;> iassumption

/-- A tile's row of agreeing contents. -/
theorem RowOK.congr {d : Dev nD} {p : Fin 32} {f g : S32x16x128.Idx → F .f32} (h : RowOK m d p f) (e : ∀ j ∈ rowSet p, g j = f j) : RowOK m d p g := by
  unfold RowOK at h ⊢
  rwa [show rowOf p g = rowOf p f from funext fun j => e _ (Finset.mem_filter.mpr ⟨Finset.mem_univ _, rfl⟩)]

/-- What the call hands back, as whole arrays. -/
theorem collect (d : Dev nD) :
    (iprop(keepPts m d ∗ bigSep Finset.univ fun c : Fin 2 => bigSep Finset.univ fun s : Fin 16 => tdPts m d (pOf c s)) : sProp 𝕄)
      ⊢ iprop(fullPts m d ∗ ∃ f : S32x16x128.Idx → F .f32, ⌜∀ p, RowOK m d p f⌝ ∗ oLoc d ↦{fullShare} (f : Buf (Elt F) (oLoc d))) := by
  rw [← bigSep_tiles (fun p => tdPts m d p)]
  unfold tdPts
  rw [bigSep_sep']
  iintro ⟨Hk, Hi, Ho⟩
  isplitl [Hk Hi]; · iapply (collect_in m d); isplitl [Hk] <;> iassumption
  haveI : Nonempty (S32x16x128.Idx → F .f32) := ⟨m (oLoc d)⟩
  ihave Ho := (bigSep_exists_pi (Finset.univ : Finset (Fin 32)) fun p (f : S32x16x128.Idx → F .f32) =>
    (iprop(⌜RowOK m d p f⌝ ∗ oLoc d ↦[rowSet p]{fullShare} (f : Buf (Elt F) (oLoc d))) : sProp 𝕄)) $$ Ho
  icases Ho with ⟨%fs, Ho⟩
  ihave Ho := (bigSep_pure_sep (Finset.univ : Finset (Fin 32)) (fun p => RowOK m d p (fs p))
    fun p => (oLoc d ↦[rowSet p]{fullShare} (fs p : Buf (Elt F) (oLoc d)) : sProp 𝕄)) $$ Ho
  icases Ho with ⟨%hok, Ho⟩
  ihave Ho := (pointsTo_biUnion_join _ rowSet (fun p => (fs p : Buf (Elt F) (oLoc d))) (m (oLoc d)) rowSet_disjoint) $$ Ho
  icases Ho with ⟨%g, %hg, Ho⟩
  rw [rowSet_cover]
  iexists g
  isplitr
  · ipureintro; exact fun p => (hok p (Finset.mem_univ _)).congr m fun j hj => hg p (Finset.mem_univ _) j hj
  iexact Ho

end Cert.KernelIdeal.Tile

end
-- ==== Proof.Ideal.TcBodies.lean ====
/-
  THE TWO TENSORCORE BODIES on whole staging buffers: what each leaves in its result, named from what its inputs hold.
-/
module

public import proofs.«01_k».proof.Proof.Ideal.Launch
public import proofs.«01_k».proof.Proof.Gen.KernelIdeal.Points
public import Idealize.ShloMosaic.Lib.Tactic

@[expose] public section

noncomputable section

namespace Cert.KernelIdeal.Tile

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A buffer written whole reads as what was written. -/
theorem read_written {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, by
    subst h
    show y ∈ (Rect.unit _ S.size inb).set
    exact Rect.mem_set_unit.mpr fun a => ⟨Nat.zero_le _, by rw [Nat.zero_add]; exact (y a).isLt⟩⟩, View.canon_unit_zero h]

theorem zero2 : (![0, 0] : Fin 2 → ℕ) = fun _ => 0 := by funext a; fin_cases a <;> rfl
theorem zero3 : (![0, 0, 0] : Fin 3 → ℕ) = fun _ => 0 := by funext a; fin_cases a <;> rfl
theorem zero5 : (![0, 0, 0, 0, 0] : Fin 5 → ℕ) = fun _ => 0 := by funext a; fin_cases a <;> rfl

/-- The combine: the tiles' partial sums added over tiles and lanes, and the bias added. -/
theorem combine_spec (c : Dev nD) (M0 : Memref sig .tc .vmem S32x16x128 .f32) (h0 : M0.IsWhole) (M1 : Memref sig .tc .vmem S1x128 .f32) (h1 : M1.IsWhole)
    (M2 : Memref sig .tc .vmem S1x128 .f32) (h2 : M2.IsWhole) (x0 : Vec F S32x16x128 .f32) (x1 : Vec F S1x128 .f32) (E : Set ℕ) (Q : PUnit → sProp 𝕄) :
    iprop(owns (c : Thread nD τ) M0 fullShare x0 ∗ owns (c : Thread nD τ) M1 fullShare x1 ∗ (∃ d, owns (c : Thread nD τ) M2 fullShare d)
        ∗ (iprop(owns (c : Thread nD τ) M0 fullShare x0 ∗ owns (c : Thread nD τ) M1 fullShare x1 ∗ owns (c : Thread nD τ) M2 fullShare (k2_pay1 x0 x1)) -∗ Q ⟨⟩))
      ⊢ wp frame (wpE (defs₀ (F := F)) Variants.none c none) E (cc2__combine_body M0 h0 M1 h1 M2 h2) Q := by
  simp only [cc2__combine_body_eq_skeleton]; unfold cc2__combine_body_skel owns
  iintro ⟨⟨%f0, %hf0, H0⟩, ⟨%f1, %hf1, H1⟩, ⟨%d2, %f2, -, H2⟩, Hk⟩
  obtain rfl := h0.eq_unread hf0; obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr; swap; · iexact H2
  ipureintro
  rw [read_written M2.view f2 zero2]
  simp only [View.readAt_eq_ld, h0.read_unread, h1.read_unread, View.ld_unit_zero (S := S32x16x128) zero3, View.ld_unit_zero (S := S1x128) zero2]

/-- The two channels' weights of a block. -/
def wtA (x : Vec F S2x1x8x64x64 .f32) : Vec F S1x1x8x64x64 .f32 :=
  View.ld x (Rect.unit (s := S2x1x8x64x64) ![0, 0, 0, 0, 0] S1x1x8x64x64.size inb_S2x1x8x64x64_S1x1x8x64x64_0_0_0_0_0)
def wtB (x : Vec F S2x1x8x64x64 .f32) : Vec F S1x1x8x64x64 .f32 :=
  View.ld x (Rect.unit (s := S2x1x8x64x64) ![1, 0, 0, 0, 0] S1x1x8x64x64.size inb_S2x1x8x64x64_S1x1x8x64x64_1_0_0_0_0)

section
variable (c : Dev nD) (i : grid1.Coords) (M1 : Memref sig .tc .vmem S38x1x8x64x64 .f32) (h1 : M1.IsWhole) (M2 : Memref sig .tc .vmem S1x1x8x64x64 .f32)
  (h2 : M2.IsWhole) (M3 : Memref sig .tc .vmem S2x1x8x64x64 .f32) (h3 : M3.IsWhole) (M4 : Memref sig .tc .vmem S1x2 .f32) (h4 : M4.IsWhole)
  (M5 : Memref sig .tc .vmem S38x2 .f32) (h5 : M5.IsWhole) (x1 : Vec F S38x1x8x64x64 .f32) (x2 : Vec F S1x1x8x64x64 .f32)
  (x3 : Vec F S2x1x8x64x64 .f32) (x4 : Vec F S1x2 .f32) (E : Set ℕ)

/-- The inputs' staging buffers. -/
def tcIns : sProp 𝕄 :=
  iprop(owns (c : Thread nD τ) M1 fullShare x1 ∗ owns (c : Thread nD τ) M2 fullShare x2 ∗ owns (c : Thread nD τ) M3 fullShare x3
    ∗ owns (c : Thread nD τ) M4 fullShare x4)

/-- The first block: the accumulator is set to the block's sums and the bias. -/
theorem tc_first (Q : PUnit → sProp 𝕄) (hc1 : k1_cond1 i = 1#1) (hc2 : ¬k1_cond2 i = 1#1) :
    iprop(tcIns c M1 M2 M3 M4 x1 x2 x3 x4 ∗ (∃ d, owns (c : Thread nD τ) M5 fullShare d)
        ∗ (iprop(tcIns c M1 M2 M3 M4 x1 x2 x3 x4 ∗ owns (c : Thread nD τ) M5 fullShare (k1_pay2 x1 x2 (wtA x3) (wtB x3) x4)) -∗ Q ⟨⟩))
      ⊢ wp frame (wpE (defs₀ (F := F)) Variants.none c none) E (cc1__tc_body i M1 h1 M2 h2 M3 h3 M4 h4 M5 h5) Q := by
  simp only [cc1__tc_body_eq_skeleton]; unfold cc1__tc_body_skel tcIns owns
  iintro ⟨⟨⟨%f1, %hf1, H1⟩, ⟨%f2, %hf2, H2⟩, ⟨%f3, %hf3, H3⟩, ⟨%f4, %hf4, H4⟩⟩, ⟨%d5, %f5, -, H5⟩, Hk⟩
  obtain rfl := h1.eq_unread hf1; obtain rfl := h2.eq_unread hf2; obtain rfl := h3.eq_unread hf3; obtain rfl := h4.eq_unread hf4
  sl_exec (disch := first | sl_exact hc1 | sl_exact hc2)
  sl_step
  iapply Hk
  isplitl [H1 H2 H3 H4]
  · isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  iexists _; isplitr; swap; · iexact H5
  ipureintro
  rw [read_written M5.view f5 zero2]
  simp only [View.readAt_eq_ld, h1.read_unread, h2.read_unread, h3.read_unread, h4.read_unread, View.ld_unit_zero (S := S38x1x8x64x64) zero5,
    View.ld_unit_zero (S := S1x1x8x64x64) zero5, View.ld_unit_zero (S := S1x2) zero2]
  rfl

/-- A later block: its sums are added to the accumulator. -/
theorem tc_next (Q : PUnit → sProp 𝕄) (hc1 : ¬k1_cond1 i = 1#1) (hc2 : k1_cond2 i = 1#1) (x5 : Vec F S38x2 .f32) :
    iprop(tcIns c M1 M2 M3 M4 x1 x2 x3 x4 ∗ owns (c : Thread nD τ) M5 fullShare x5
        ∗ (iprop(tcIns c M1 M2 M3 M4 x1 x2 x3 x4 ∗ owns (c : Thread nD τ) M5 fullShare (k1_pay3 x1 x2 (wtA x3) (wtB x3) x5)) -∗ Q ⟨⟩))
      ⊢ wp frame (wpE (defs₀ (F := F)) Variants.none c none) E (cc1__tc_body i M1 h1 M2 h2 M3 h3 M4 h4 M5 h5) Q := by
  simp only [cc1__tc_body_eq_skeleton]; unfold cc1__tc_body_skel tcIns owns
  iintro ⟨⟨⟨%f1, %hf1, H1⟩, ⟨%f2, %hf2, H2⟩, ⟨%f3, %hf3, H3⟩, ⟨%f4, %hf4, H4⟩⟩, ⟨%f5, %hf5, H5⟩, Hk⟩
  obtain rfl := h1.eq_unread hf1; obtain rfl := h2.eq_unread hf2; obtain rfl := h3.eq_unread hf3; obtain rfl := h4.eq_unread hf4
  obtain rfl := h5.eq_unread hf5
  sl_exec (disch := first | sl_exact hc1 | sl_exact hc2)
  sl_step
  iapply Hk
  isplitl [H1 H2 H3 H4]
  · isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  iexists _; isplitr; swap; · iexact H5
  ipureintro
  rw [read_written M5.view _ zero2]
  simp only [View.readAt_eq_ld, h1.read_unread, h2.read_unread, h3.read_unread, h5.read_unread, View.ld_unit_zero (S := S38x1x8x64x64) zero5,
    View.ld_unit_zero (S := S1x1x8x64x64) zero5, View.ld_unit_zero (S := S38x2) zero2]
  rfl

end

end Cert.KernelIdeal.Tile

end
-- ==== Proof.Ideal.RegionTc.lean ====
/-
  THE TWO TENSORCORE REGIONS of the program, each over the state "every unscoped buffer at a valuation, the core owing nothing": entered from any
  valuation, left at it with the region's result named.
-/
module

public import proofs.«01_k».proof.Proof.Ideal.TcBodies
public import Idealize.ShloMosaic.Lib.Pipeline.ValueKit.Geometry

@[expose] public section

noncomputable section

namespace Cert.KernelIdeal.Tile

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## What both regions share -/

/-- The level below which the call's waits lie. -/
def callBound : ℕ := 8 * SparseCore.Cfg.Blocks.fst 1 1 1

/-- The pairs the core may have waited on before a region: the call's. -/
def waited (c : Dev nD) : Set (SemLoc sig × HIx 1) := {p | (K (F := F)).lev ((c : Thread nD τ), p.1) p.2 ≤ callBound}

/-- The core owes nothing, having waited within those. -/
def idleSt (c : Dev nD) : sProp 𝕄 :=
  iprop(∃ W, ⌜(K (F := F)).WBelow (c : Thread nD τ) W (callBound)⌝ ∗ owes (c : Thread nD τ) (0 : CellTallies nD τ sig (HIx 1)) W)

abbrev Vals : Type := (c : Dev nD) → (b : Ref sig .tc) → Buf (Elt F) ((c : Thread nD τ).loc b)

/-- The proof data of the pipeline a region does not run. -/
def otherDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : Vals (F := F))

/-! ## The combine -/

def combineDat (c : Dev nD) : Dat τ (Elt F) (HIx 1) ℕ UU ℕ cfg2 c where
  A w := V c (Pipeline.arrRef spec2 w)
  after w _ := match w with
    | ⟨0, _⟩ => V c main_v0
    | ⟨1, _⟩ => V c main_v6
    | ⟨2, _⟩ => k2_pay1 (V c main_v0) (V c main_v6)
  Φ _ := Pipeline.scopedRest spec2 c
  q _ := fullShare
  owed _ := 0
  recorded _ := waited (F := F) c

theorem combine_before0 (c : Dev nD) (d : (cfg2.win 0).block.Idx → Elt F (cfg2.win 0).elt) : (combineDat V c).before 0 t2_0 d = V c main_v0 := by
  have h : ((cfg2.win 0).blk t2_0).view.read (Elt F) (V c main_v0) = V c main_v0 :=
    Memref.read_access_unit_zero (Elt F) main_v0 (off := fun a => 0 * main_v0.ty.shape.size a) (funext fun _ => Nat.zero_mul _) _ _
  refine Eq.trans ?_ h
  unfold Dat.before; rw [if_pos (by decide)]; rfl

theorem combine_before1 (c : Dev nD) (d : (cfg2.win 1).block.Idx → Elt F (cfg2.win 1).elt) : (combineDat V c).before 1 t2_0 d = V c main_v6 := by
  have h : ((cfg2.win 1).blk t2_0).view.read (Elt F) (V c main_v6) = V c main_v6 :=
    Memref.read_access_unit_zero (Elt F) main_v6 (off := fun a => 0 * main_v6.ty.shape.size a) (funext fun _ => Nat.zero_mul _) _ _
  refine Eq.trans ?_ h
  unfold Dat.before; rw [if_pos (by decide)]; rfl

theorem combine_body (c : Dev nD) : BodyObligation (combineDat V c) (defs₀ (F := F)) 𝒱₀ none Set.univ := fun t => by
  obtain rfl := fin_N2 t
  rw [bigSep_W2, bigSep_W2]
  rw [show (combineDat V c).Φ t2_0.succ = (combineDat V c).Φ t2_0.castSucc from rfl,
    show (combineDat V c).owesAt none t2_0.succ = (combineDat V c).owesAt none t2_0.castSucc from rfl]
  simp only [combine_before0, combine_before1]
  iintro ⟨HΦ, Ho, ⟨%d0, H0⟩, ⟨%d1, H1⟩, ⟨%d2, H2⟩⟩
  iapply (combine_spec c _ (hstage2_0 0) _ (hstage2_1 0) _ (hstage2_2 0) (V c main_v0) (V c main_v6) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The combine's result array ends at the combined sums. -/
theorem combine_arr (c : Dev nD) : (combineDat V c).arrAt 2 cfg2.N = k2_pay1 (V c main_v0) (V c main_v6) := by
  funext i
  exact ((combineDat V c).arrAt_emb_eq_after_last 2 t2_0 (by decide +kernel) i).trans rfl

/-! ## The blocks' accumulation -/

/-- Window `w`'s block at point `t`, as the transfer moves it. -/
def tcBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No block of the first window is cut. -/
theorem uncut0 : ∀ (t : Fin cfg1.N) a, (cfg1.win 0).clip (cfg1.grid.coords t) a = none :=
  (by decide : ∀ (t : Fin grid1.N) a, win1_0.clip (grid1.coords t) a = none)

/-- The first window's staging buffer after its fetch at point `t`. -/
def tcX (c : Dev nD) (t : Fin cfg1.N) : Vec F S38x1x8x64x64 .f32 :=
  (cfg1.win 0).fill (cfg1.grid.coords t) (fun _ => ((Scalar.ofBits .f32 0x00000000#32 : F .f32) : Elt F .f32)) (tcBlk V c 0 t)

def tcMask (c : Dev nD) (t : Fin cfg1.N) : Vec F S1x1x8x64x64 .f32 := tcBlk V c 1 t
def tcW (c : Dev nD) (t : Fin cfg1.N) : Vec F S2x1x8x64x64 .f32 := tcBlk V c 2 t
def tcBias (c : Dev nD) (t : Fin cfg1.N) : Vec F S1x2 .f32 := tcBlk V c 3 t

/-- The accumulator after point `n`. -/
def tcAcc (c : Dev nD) : (n : ℕ) → n < cfg1.N → Vec F S38x2 .f32
  | 0, h => k1_pay2 (tcX V c ⟨0, h⟩) (tcMask V c ⟨0, h⟩) (wtA (tcW V c ⟨0, h⟩)) (wtB (tcW V c ⟨0, h⟩)) (tcBias V c ⟨0, h⟩)
  | n + 1, h => k1_pay3 (tcX V c ⟨n + 1, h⟩) (tcMask V c ⟨n + 1, h⟩) (wtA (tcW V c ⟨n + 1, h⟩)) (wtB (tcW V c ⟨n + 1, h⟩))
      (tcAcc c n (Nat.lt_of_succ_lt h))

def tcDat (c : Dev nD) : Dat τ (Elt F) (HIx 1) ℕ UU ℕ cfg1 c where
  A w := V c (Pipeline.arrRef spec1 w)
  after w t := match w with
    | ⟨0, _⟩ => tcX V c t
    | ⟨1, _⟩ => tcMask V c t
    | ⟨2, _⟩ => tcW V c t
    | ⟨3, _⟩ => tcBias V c t
    | ⟨4, _⟩ => tcAcc V c t.val t.isLt
  Φ _ := Pipeline.scopedRest spec1 c
  q _ := fullShare
  owed _ := 0
  recorded _ := waited (F := F) c

theorem tc_before0 (c : Dev nD) (t : Fin cfg1.N) (d) : (tcDat V c).before 0 t d = tcX V c t :=
  ((tcDat V c).before_fetched 0 t (fetch1_0 t) d).trans ((tcDat V c).fetched_of_clip_none 0 t (uncut0 t) d _)

theorem tc_before1 (c : Dev nD) (t : Fin cfg1.N) (d) : (tcDat V c).before 1 t d = tcMask V c t :=
  (tcDat V c).before_fetched 1 t (fetch1_1 t) d

theorem tc_before2 (c : Dev nD) (t : Fin cfg1.N) (d) : (tcDat V c).before 2 t d = tcW V c t :=
  (tcDat V c).before_fetched 2 t (fetch1_2 t) d

theorem tc_before3 (c : Dev nD) (t : Fin cfg1.N) (d) : (tcDat V c).before 3 t d = tcBias V c t :=
  (tcDat V c).before_in_eq_fetched 3 rfl (fun _ => rfl) (fun _ _ _ => rfl) (fun _ => rfl) t d

/-- Which branch the body takes: the first point sets, the later ones add. -/
theorem tc_cond : ∀ t : Fin cfg1.N, (k1_cond1 (grid1.coords t) = 1#1 ↔ t.val = 0) ∧ (k1_cond2 (grid1.coords t) = 1#1 ↔ t.val ≠ 0) :=
  (by decide : ∀ t : Fin grid1.N, (k1_cond1 (grid1.coords t) = 1#1 ↔ t.val = 0) ∧ (k1_cond2 (grid1.coords t) = 1#1 ↔ t.val ≠ 0))

/-- At every point the body takes a branch that stores the accumulator. -/
theorem tc_live (i : grid1.Coords) : cfg1.idle 4 i = false := by
  have h : ∀ n : Fin 8,
      (!(Scalar.cmpi .ne (Scalar.extui (Scalar.cmpi .eq (BitVec.ofNat 32 n.val) 0#32) : BitVec 32) 0#32 == 1#1)
        && !(Scalar.cmpi .ne (Scalar.extui (Scalar.cmpi .ne (BitVec.ofNat 32 n.val) 0#32) : BitVec 32) 0#32 == 1#1)) = false := by decide
  exact h (i 0)

/-- At a later point the accumulator's buffer holds what the point before left. -/
theorem tc_before4 (c : Dev nD) (t : Fin cfg1.N) (ht : t.val ≠ 0) (d) :
    (tcDat V c).before 4 t d = tcAcc V c (t.val - 1) (Nat.lt_of_le_of_lt (Nat.sub_le _ _) t.isLt) :=
  (tcDat V c).before_out_kept 4 rfl t ht (by
    have hN : cfg1.N = 8 := N_1
    have := t.isLt
    rw [Bool.eq_false_iff]; intro h
    have := (flush1_4 _).mp h
    simp only at this; omega) tc_live (fun _ _ => rfl) d

theorem tcAcc_pos (c : Dev nD) (t : Fin cfg1.N) (ht : t.val ≠ 0) :
    tcAcc V c t.val t.isLt = k1_pay3 (tcX V c t) (tcMask V c t) (wtA (tcW V c t)) (wtB (tcW V c t))
      (tcAcc V c (t.val - 1) (Nat.lt_of_le_of_lt (Nat.sub_le _ _) t.isLt)) := by
  rcases t with ⟨_ | n, h⟩
  · exact absurd rfl ht
  · rfl

theorem tc_row (t : Fin cfg1.N) : defs₀ (F := F) .tc cfg1.body (cfg1.bodyArgs t (cfg1.slots t)) = bodyAt1 t := by
  rfl

theorem tc_body (c : Dev nD) : BodyObligation (tcDat V c) (defs₀ (F := F)) 𝒱₀ none Set.univ := fun t => by
  rw [bigSep_W1, bigSep_W1, tc_row]
  rw [show (tcDat V c).Φ t.succ = (tcDat V c).Φ t.castSucc from rfl,
    show (tcDat V c).owesAt none t.succ = (tcDat V c).owesAt none t.castSucc from rfl]
  simp only [tc_before0, tc_before1, tc_before2, tc_before3]
  rw [show idle1 4 (grid1.coords t) = false from tc_live _]
  iintro ⟨HΦ, Ho, ⟨%d0, H0⟩, ⟨%d1, H1⟩, ⟨%d2, H2⟩, ⟨%d3, H3⟩, ⟨%d4, H4⟩⟩
  by_cases ht : t.val = 0
  · obtain rfl : t = t1_0 := Fin.ext ht
    iapply (tc_first c (grid1.coords t1_0) _ _ _ _ _ _ _ _ _ _ (tcX V c t1_0) (tcMask V c t1_0) (tcW V c t1_0) (tcBias V c t1_0) Set.univ _
      ((tc_cond t1_0).1.mpr rfl) (fun h => (tc_cond t1_0).2.mp h rfl))
    unfold tcIns
    isplitl [H0 H1 H2 H3]
    · isplitl [H0]; · iexact H0
      isplitl [H1]; · iexact H1
      isplitl [H2]; · iexact H2
      iexact H3
    isplitl [H4]; · iexists _; iexact H4
    iintro ⟨⟨H0, H1, H2, H3⟩, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [tc_before4 V c t ht]
    iapply (tc_next c (grid1.coords t) _ _ _ _ _ _ _ _ _ _ (tcX V c t) (tcMask V c t) (tcW V c t) (tcBias V c t) Set.univ _
      (fun h => ht ((tc_cond t).1.mp h)) ((tc_cond t).2.mpr ht) (tcAcc V c (t.val - 1) (Nat.lt_of_le_of_lt (Nat.sub_le _ _) t.isLt)))
    unfold tcIns
    isplitl [H0 H1 H2 H3]
    · isplitl [H0]; · iexact H0
      isplitl [H1]; · iexact H1
      isplitl [H2]; · iexact H2
      iexact H3
    isplitl [H4]; · iexact H4
    rw [← tcAcc_pos V c t ht]
    iintro ⟨⟨H0, H1, H2, H3⟩, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem tc_last : 7 < cfg1.N := by rw [show cfg1.N = 8 from N_1]; decide

/-- The accumulator's array ends at the accumulator after the last point. -/
theorem tc_arr (c : Dev nD) : (tcDat V c).arrAt 4 cfg1.N = tcAcc V c 7 tc_last := by
  funext i
  exact ((tcDat V c).arrAt_emb_eq_after_last 4 t1_7 (by decide +kernel) i).trans rfl

end Cert.KernelIdeal.Tile

end
-- ==== Proof.Ideal.Regions.lean ====
/-
  THE TWO TENSORCORE REGIONS of the program, each over the state "every unscoped buffer at a valuation, the core owing nothing": entered from any
  valuation, left at it with the region's result in its array.
-/
module

public import proofs.«01_k».proof.Proof.Ideal.RegionTc
public import Idealize.ShloMosaic.Lib.Pipeline.RegionsLoop

@[expose] public section

noncomputable section

namespace Cert.KernelIdeal.Tile

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V Vp : Vals (F := F))

/-- No pipeline takes a prefetched table. -/
def adm : (p : Fin 2) → (pcfgs (F := F) p).Adm := fun p => (cfgs p).toPCfg_adm

/-- The proof data of an entry of the first region, -/
def tcDats : (p : Fin 2) → (c : Dev nD) → Dat τ (Elt F) (HIx 1) ℕ UU ℕ (Pipeline.pin (pcfgs (F := F)) adm p) c
  | ⟨0, _⟩ => fun c => tcDat V c
  | ⟨1, _⟩ => fun c => otherDat c

/-- and of the second. -/
def combineDats : (p : Fin 2) → (c : Dev nD) → Dat τ (Elt F) (HIx 1) ℕ UU ℕ (Pipeline.pin (pcfgs (F := F)) adm p) c
  | ⟨0, _⟩ => fun c => otherDat c
  | ⟨1, _⟩ => fun c => combineDat V c

/-- What a region enters with and leaves: the unscoped buffers at a valuation and the core owing nothing. -/
def regionSt (W : Vals (F := F)) (c : Dev nD) : sProp 𝕄 := iprop(unscopedBufs c (W c) ∗ idleSt (F := F) c)

/-- The core idle is the core's `owes` as a region's loop holds it, -/
theorem owes_of_idle (c : Dev nD) (B : Set (SemLoc sig × HIx 1)) :
    idleSt (F := F) c ⊢ (Pipeline.owesWithin c (0 : CellTallies nD τ sig (HIx 1)) (waited (F := F) c ∪ B) : sProp 𝕄) := by
  unfold idleSt Pipeline.owesWithin
  iintro ⟨%W, %hW, HO⟩
  iexists W; isplitr; · ipureintro; exact fun p hp => Or.inl (hW p hp)
  iexact HO

/-- and back: the loop's own waits are at the lowest level. -/
theorem idle_of_owes (c : Dev nD) (cfg : Cfg sig Λ₀) :
    (Pipeline.owesWithin c (0 : CellTallies nD τ sig (HIx 1)) (waited (F := F) c ∪ cfg.waitPairs none) : sProp 𝕄) ⊢ idleSt (F := F) c := by
  unfold idleSt Pipeline.owesWithin
  iintro ⟨%W, %hW, HO⟩
  iexists W; isplitr
  · ipureintro
    intro p hp
    rcases hW hp with h | ⟨w, s, rfl⟩
    · exact h
    · exact Nat.zero_le _
  iexact HO

/-- No prefetched table is held. -/
theorem noTables (c : Dev nD) (p : Fin 2) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

set_option backward.isDefEq.respectTransparency.types false in
/-- THE FIRST REGION: it leaves the first rows' sums in its array. -/
def tcRegion (hout : ∀ c, Vp c main_v2 = tcAcc V c 7 tc_last) (hne : ∀ c (b : Ref sig .tc), b ≠ main_v2 → Vp c b = V c b) :
    Pipeline.RegionSeg (pcfgs (F := F)) adm (tcDats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (tc_body V c).loose
  hwaits := Pipeline.hwaits_of_owed_zero _ _ _ _ _ _ 0 fun _ _ => rfl
  pre := regionSt V
  post := regionSt Vp
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (tcDats V) launch1.win launch1.arr_whole c
      ((tcDats V 0 c).share_full fun _ => rfl) (V c) fun _ => rfl
    unfold regionSt
    iintro ⟨⟨Hub, HO⟩, -, -⟩
    ihave H := hsplit $$ Hub
    icases H with ⟨Ha, Hrest⟩
    imodintro
    isplitl [Ha]; · iexact Ha
    isplitr; · iapply noTables; iempintro
    isplitl [HO]; · iapply (owes_of_idle c _) $$ HO
    isplitr; · iempintro
    iexact Hrest
  hin c := by
    rw [show (tcDats V 0 c).Φ 0 = Pipeline.scopedRest spec1 c from rfl]
    iintro ⟨-, -, Hr⟩; iexact Hr
  hout c := by
    rw [Pipeline.ownSems0_none, show (tcDats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (tcDats V) ((tcDats V 0 c).share_full fun _ => rfl) (V c) (Vp c) ((tcDats V 0 c).arrAt · (cfgs 0).N)
      (fun w => by
        fin_cases w
        · exact ((tcDats V 0 c).arrAt_in 0 rfl _).trans (hne c main_arg0 (by decide)).symm
        · exact ((tcDats V 0 c).arrAt_in 1 rfl _).trans (hne c main_arg1 (by decide)).symm
        · exact ((tcDats V 0 c).arrAt_in 2 rfl _).trans (hne c main_arg2 (by decide)).symm
        · exact ((tcDats V 0 c).arrAt_in 3 rfl _).trans (hne c main_v1 (by decide)).symm
        · exact (tc_arr V c).trans (hout c).symm)
      (fun b hb => hne c b fun h => hb (h ▸ Finset.mem_image.mpr ⟨4, Finset.mem_univ _, rfl⟩))
    unfold regionSt
    iintro ⟨Ha, HO, -, Hrest⟩
    imodintro
    isplitl [Ha Hrest]
    · iapply hjoin; isplitl [Ha] <;> iassumption
    have hidle : ((tcDats V 0 c).owesAt none (Fin.last (Pipeline.pin (pcfgs (F := F)) adm 0).N) : sProp 𝕄) ⊢ idleSt (F := F) c := idle_of_owes c cfg1
    iapply hidle $$ HO

set_option backward.isDefEq.respectTransparency.types false in
/-- THE SECOND REGION: it leaves the combined partial sums in its array. -/
def combineRegion (hout : ∀ c, Vp c main_v7 = k2_pay1 (V c main_v0) (V c main_v6)) (hne : ∀ c (b : Ref sig .tc), b ≠ main_v7 → Vp c b = V c b) :
    Pipeline.RegionSeg (pcfgs (F := F)) adm (combineDats V) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (combine_body V c).loose
  hwaits := Pipeline.hwaits_of_owed_zero _ _ _ _ _ _ 1 fun _ _ => rfl
  pre := regionSt V
  post := regionSt Vp
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (combineDats V) launch2.win launch2.arr_whole c
      ((combineDats V 1 c).share_full fun _ => rfl) (V c) fun _ => rfl
    unfold regionSt
    iintro ⟨⟨Hub, HO⟩, -, -⟩
    ihave H := hsplit $$ Hub
    icases H with ⟨Ha, Hrest⟩
    imodintro
    isplitl [Ha]; · iexact Ha
    isplitr; · iapply noTables; iempintro
    isplitl [HO]; · iapply (owes_of_idle c _) $$ HO
    isplitr; · iempintro
    iexact Hrest
  hin c := by
    rw [show (combineDats V 1 c).Φ 0 = Pipeline.scopedRest spec2 c from rfl]
    iintro ⟨-, -, Hr⟩; iexact Hr
  hout c := by
    rw [Pipeline.ownSems0_none, show (combineDats V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (combineDats V) ((combineDats V 1 c).share_full fun _ => rfl) (V c) (Vp c) ((combineDats V 1 c).arrAt · (cfgs 1).N)
      (fun w => by
        fin_cases w
        · exact ((combineDats V 1 c).arrAt_in 0 rfl _).trans (hne c main_v0 (by decide)).symm
        · exact ((combineDats V 1 c).arrAt_in 1 rfl _).trans (hne c main_v6 (by decide)).symm
        · exact (combine_arr V c).trans (hout c).symm)
      (fun b hb => hne c b fun h => hb (h ▸ Finset.mem_image.mpr ⟨2, Finset.mem_univ _, rfl⟩))
    unfold regionSt
    iintro ⟨Ha, HO, -, Hrest⟩
    imodintro
    isplitl [Ha Hrest]
    · iapply hjoin; isplitl [Ha] <;> iassumption
    have hidle : ((combineDats V 1 c).owesAt none (Fin.last (Pipeline.pin (pcfgs (F := F)) adm 1).N) : sProp 𝕄) ⊢ idleSt (F := F) c := idle_of_owes c cfg2
    iapply hidle $$ HO

end Cert.KernelIdeal.Tile

end
-- ==== Proof.Ideal.Main.lean ====
/-
  @MAIN ON THE TENSORCORE: the SparseCore call, the two regions and the host operations between them, at the valuations they go through.
-/
module

public import proofs.«01_k».proof.Proof.Ideal.Deal
public import proofs.«01_k».proof.Proof.Ideal.Regions
public import Idealize.ShloMosaic.Lib.Pipeline.Frame

@[expose] public section

noncomputable section

namespace Cert.KernelIdeal.Tile

open Cert.KernelIdeal Cert.KernelIdeal.Gen
open Idealize.ShloMosaic Idealize.ShloMosaic.ValueIdx
open Idealize.ShloMosaic.TcCoe
open Idealize.ShloMosaic.StableHlo (held wp_hlo_within)
open Idealize.ShloMosaic.Pipeline (ucRefs unscopedBufs_held sub_ucRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

abbrev opBias : HloOp τ sig (Elt F) := StableHlo.reshape main_arg3 main_v1 (rfl : (.f32 : EltTy) = .f32) shapeCasts_S2_S1x2
abbrev opBias' : HloOp τ sig (Elt F) := StableHlo.reshape main_arg3 main_v3 (rfl : (.f32 : EltTy) = .f32) shapeCasts_S2_S1x2
abbrev opRows : HloOp τ sig (Elt F) :=
  StableHlo.unary main_v3 main_v4 (broadcastInDim S64x2 ![0, 1] bcast_S1x2_S64x2_0_1 : (⟨S1x2, .f32⟩ : BufTy).Contents (Elt F) → (⟨S64x2, .f32⟩ : BufTy).Contents (Elt F))
abbrev opFlat : HloOp τ sig (Elt F) := StableHlo.reshape main_v4 main_v5 (rfl : (.f32 : EltTy) = .f32) shapeCasts_S64x2_S128
abbrev opFlat' : HloOp τ sig (Elt F) := StableHlo.reshape main_v5 main_v6 (rfl : (.f32 : EltTy) = .f32) shapeCasts_S128_S1x128
abbrev opPairs : HloOp τ sig (Elt F) := StableHlo.reshape main_v7 main_v8 (rfl : (.f32 : EltTy) = .f32) shapeCasts_S1x128_S64x2
abbrev opCut : HloOp τ sig (Elt F) :=
  StableHlo.unary main_v8 main_v9 ((extractStridedSlice S26x2 ![0, 0] · slices_S64x2_S26x2_0_0) : (⟨S64x2, .f32⟩ : BufTy).Contents (Elt F) → (⟨S26x2, .f32⟩ : BufTy).Contents (Elt F))
abbrev opJoin : HloOp τ sig (Elt F) :=
  StableHlo.binary main_v2 main_v9 main_v10 ((fun a b => concatenate S64x2 0 [⟨S38x2, a⟩, ⟨S26x2, b⟩] concatenates_S38x2_S26x2_S64x2_d0)
    : (⟨S38x2, .f32⟩ : BufTy).Contents (Elt F) → (⟨S26x2, .f32⟩ : BufTy).Contents (Elt F) → (⟨S64x2, .f32⟩ : BufTy).Contents (Elt F))

/-! ## The valuations -/

variable (m : (ℓ : Loc nD τ sig) → Buf (Elt F) ℓ) (f : S32x16x128.Idx → F .f32)

abbrev dr (b : Ref sig .tc) : DevRef τ sig := Proc.devRef .tc b

def W0 (d : Dev nD) : Valuation τ sig (Elt F) := fun b => m (d, b)
/-- After the call: the partial sums. -/
def W1 (d : Dev nD) : Valuation τ sig (Elt F) := Function.update (W0 m d) (dr main_v0) f
def W2 (d : Dev nD) : Valuation τ sig (Elt F) := (opBias (F := F)).result (W1 m f d)
def V2 : Vals (F := F) := fun c b => W2 m f c (dr b)
/-- After the first region. -/
def W3 (d : Dev nD) : Valuation τ sig (Elt F) := Function.update (W2 m f d) (dr main_v2) (tcAcc (V2 m f) d 7 tc_last)
def V3 : Vals (F := F) := fun c b => W3 m f c (dr b)
def W4 (d : Dev nD) : Valuation τ sig (Elt F) := (opBias' (F := F)).result (W3 m f d)
def W5 (d : Dev nD) : Valuation τ sig (Elt F) := (opRows (F := F)).result (W4 m f d)
def W6 (d : Dev nD) : Valuation τ sig (Elt F) := (opFlat (F := F)).result (W5 m f d)
def W7 (d : Dev nD) : Valuation τ sig (Elt F) := (opFlat' (F := F)).result (W6 m f d)
def V7 : Vals (F := F) := fun c b => W7 m f c (dr b)
/-- After the second region. -/
def W8 (d : Dev nD) : Valuation τ sig (Elt F) := Function.update (W7 m f d) (dr main_v7) (k2_pay1 (V7 m f d main_v0) (V7 m f d main_v6))
def V8 : Vals (F := F) := fun c b => W8 m f c (dr b)
def W9 (d : Dev nD) : Valuation τ sig (Elt F) := (opPairs (F := F)).result (W8 m f d)
def W10 (d : Dev nD) : Valuation τ sig (Elt F) := (opCut (F := F)).result (W9 m f d)
/-- At the end. -/
def W11 (d : Dev nD) : Valuation τ sig (Elt F) := (opJoin (F := F)).result (W10 m f d)

theorem dr_ne {a b : Ref sig .tc} (h : a ≠ b) : dr a ≠ dr b := fun e => h (Proc.devRef_injective _ e)

/-! ## The arrays of the SparseCore call among the unscoped ones -/

/-- The unscoped arrays but the call's four. -/
abbrev restRefs : Finset (DevRef τ sig) := ((((ucRefs τ sig).erase (dr main_arg0)).erase (dr main_arg1)).erase (dr main_arg2)).erase (dr main_v0)

theorem held_call (d : Dev nD) (W : Valuation τ sig (Elt F)) :
    (held (SparseCore.T d) (ucRefs τ sig) W : sProp 𝕄)
      = iprop((xLoc d ↦{fullShare} W (dr main_arg0)) ∗ (mLoc d ↦{fullShare} W (dr main_arg1)) ∗ (wLoc d ↦{fullShare} W (dr main_arg2))
        ∗ (oLoc d ↦{fullShare} W (dr main_v0)) ∗ held (SparseCore.T d) restRefs W) := by
  unfold held
  rw [bigSep_erase (s := ucRefs τ sig) (i := dr main_arg0) (by decide), bigSep_erase (i := dr main_arg1) (by decide),
    bigSep_erase (i := dr main_arg2) (by decide), bigSep_erase (i := dr main_v0) (by decide)]
  rfl

/-! ## The core's obligations between the call and the end -/

/-- After the call the core owes nothing; what it holds of the handshakes stays aside. -/
theorem tcSt_idle (d : Dev nD) : (K (F := F)).tcSt EH d 1 ⊢ (iprop(idleSt (F := F) d ∗ (idleSt (F := F) d -∗ (K (F := F)).tcSt EH d 1)) : sProp 𝕄) := by
  unfold SparseCore.Cfg.tcSt idleSt
  rw [show (K (F := F)).Otc d 1 = 0 from by unfold SparseCore.Cfg.Otc; simp]
  iintro ⟨HO, Hr⟩
  isplitl [HO]; · iexact HO
  iintro HO
  isplitl [HO]; · iexact HO
  iexact Hr

/-! ## A region's call -/

theorem V3_out (d : Dev nD) : V3 m f d main_v2 = tcAcc (V2 m f) d 7 tc_last := by unfold V3 W3; exact Function.update_self _ _ _
theorem V3_ne (d : Dev nD) (b : Ref sig .tc) (h : b ≠ main_v2) : V3 m f d b = V2 m f d b := by unfold V3 W3; exact Function.update_of_ne (dr_ne h) _ _
theorem V8_out (d : Dev nD) : V8 m f d main_v7 = k2_pay1 (V7 m f d main_v0) (V7 m f d main_v6) := by unfold V8 W8; exact Function.update_self _ _ _
theorem V8_ne (d : Dev nD) (b : Ref sig .tc) (h : b ≠ main_v7) : V8 m f d b = V7 m f d b := by unfold V8 W8; exact Function.update_of_ne (dr_ne h) _ _

/-- A region's state is the unscoped arrays held at its valuation. -/
theorem regionSt_held (W : (d : Dev nD) → Valuation τ sig (Elt F)) (d : Dev nD) :
    (regionSt (fun c b => W c (dr b)) d : sProp 𝕄) = iprop(held (SparseCore.T d) (ucRefs τ sig) (W d) ∗ idleSt (F := F) d) := by
  unfold regionSt
  rw [unscopedBufs_held d (W d)]

/-- A region's call is the pipeline's, lifted. -/
theorem lift_entry (p : Fin 2) :
    SparseCore.liftProg (Q := 1) (.op (.customCall (Pipeline.entry p) ()) fun x => .ret x : Prog (TpuEff nD τ sig (Elt F) (ΛP (F := F)) .tc) PUnit)
      = Prog.lift (.customCall (SparseCore.inner (Pipeline.entry p)) ()) := rfl

theorem tc_call (κ : GSem nD τ sig → ℕ) (d : Dev nD) (Q : PUnit → sProp 𝕄) :
    iprop((K (F := F)).ctx EH (P m) κ ∗ boundary (SparseCore.T d) ∗ held (SparseCore.T d) (ucRefs τ sig) (W2 m f d) ∗ idleSt (F := F) d
        ∗ Pipeline.cellsGhost (Pipeline.pin (pcfgs (F := F)) adm) EP 0 d ∗ Pipeline.toksInit (Pipeline.pin (pcfgs (F := F)) adm) EP 0 d
        ∗ ((boundary (SparseCore.T d) ∗ held (SparseCore.T d) (ucRefs τ sig) (W3 m f d) ∗ idleSt (F := F) d) -∗ Q ⟨⟩))
      ⊢ wp frame (wpE ((K (F := F)).defs (D (F := F))) 𝒱 (SparseCore.T d) none) Set.univ (Prog.lift (.customCall (SparseCore.inner (Pipeline.entry 0)) ())) Q := by
  rw [← lift_entry]
  refine BIBase.Entails.trans ?_ ((K (F := F)).wp_liftProg (D (F := F)) 𝒱 (SparseCore.T d) Set.univ none (.op (.customCall (Pipeline.entry 0) ()) fun x => .ret x) Q)
  have hR := Pipeline.RegionSeg.wp (pcfgs (F := F)) adm (tcDats (V2 m f)) (none : HIx 1) cellOf_inj EP defs₀ 𝒱₀ (K (F := F)).L (K (F := F)).lev
    (tcRegion (V2 m f) (V3 m f) (V3_out m f) (V3_ne m f)) d none (fun _ h => nomatch h) (fun x => .ret x) Q
  rw [show (tcRegion (V2 m f) (V3 m f) (V3_out m f) (V3_ne m f)).pre d = _ from regionSt_held (W2 m f) d,
    show (tcRegion (V2 m f) (V3 m f) (V3_out m f) (V3_ne m f)).post d = _ from regionSt_held (W3 m f) d] at hR
  iintro ⟨#Hctx, Hb, Hh, Hi, Hg, Ht, Hk⟩
  ihave Hlev := (SparseCore.Cfg.ctx_levAts κ) $$ Hctx
  iapply hR
  isplitl [Hk]
  · iintro ⟨Hb, Hh, Hi⟩
    rw [wp_ret]; imodintro
    iapply Hk
    isplitl [Hb]; · iexact Hb
    isplitl [Hh] <;> iassumption
  isplitl [Hb]; · iexact Hb
  isplitl [Hh Hi]; · isplitl [Hh] <;> iassumption
  isplitl [Hlev]; · iexact Hlev
  isplitl [Hg] <;> iassumption

theorem combine_call (κ : GSem nD τ sig → ℕ) (d : Dev nD) (Q : PUnit → sProp 𝕄) :
    iprop((K (F := F)).ctx EH (P m) κ ∗ boundary (SparseCore.T d) ∗ held (SparseCore.T d) (ucRefs τ sig) (W7 m f d) ∗ idleSt (F := F) d
        ∗ Pipeline.cellsGhost (Pipeline.pin (pcfgs (F := F)) adm) EP 1 d ∗ Pipeline.toksInit (Pipeline.pin (pcfgs (F := F)) adm) EP 1 d
        ∗ ((boundary (SparseCore.T d) ∗ held (SparseCore.T d) (ucRefs τ sig) (W8 m f d) ∗ idleSt (F := F) d) -∗ Q ⟨⟩))
      ⊢ wp frame (wpE ((K (F := F)).defs (D (F := F))) 𝒱 (SparseCore.T d) none) Set.univ (Prog.lift (.customCall (SparseCore.inner (Pipeline.entry 1)) ())) Q := by
  rw [← lift_entry]
  refine BIBase.Entails.trans ?_ ((K (F := F)).wp_liftProg (D (F := F)) 𝒱 (SparseCore.T d) Set.univ none (.op (.customCall (Pipeline.entry 1) ()) fun x => .ret x) Q)
  have hR := Pipeline.RegionSeg.wp (pcfgs (F := F)) adm (combineDats (V7 m f)) (none : HIx 1) cellOf_inj EP defs₀ 𝒱₀ (K (F := F)).L (K (F := F)).lev
    (combineRegion (V7 m f) (V8 m f) (V8_out m f) (V8_ne m f)) d none (fun _ h => nomatch h) (fun x => .ret x) Q
  rw [show (combineRegion (V7 m f) (V8 m f) (V8_out m f) (V8_ne m f)).pre d = _ from regionSt_held (W7 m f) d,
    show (combineRegion (V7 m f) (V8 m f) (V8_out m f) (V8_ne m f)).post d = _ from regionSt_held (W8 m f) d] at hR
  iintro ⟨#Hctx, Hb, Hh, Hi, Hg, Ht, Hk⟩
  ihave Hlev := (SparseCore.Cfg.ctx_levAts κ) $$ Hctx
  iapply hR
  isplitl [Hk]
  · iintro ⟨Hb, Hh, Hi⟩
    rw [wp_ret]; imodintro
    iapply Hk
    isplitl [Hb]; · iexact Hb
    isplitl [Hh] <;> iassumption
  isplitl [Hb]; · iexact Hb
  isplitl [Hh Hi]; · isplitl [Hh] <;> iassumption
  isplitl [Hlev]; · iexact Hlev
  isplitl [Hg] <;> iassumption

end Cert.KernelIdeal.Tile

end
-- ==== Proof.Ideal.Run.lean ====
/-
  THE RUN: from any memory the program terminates, every semaphore at zero, the TensorCore's arrays at the last valuation, for some partial sums that
  are each tile's own.
-/
module

public import proofs.«01_k».proof.Proof.Ideal.Main

@[expose] public section

noncomputable section

namespace Cert.KernelIdeal.Tile

open Cert.KernelIdeal Cert.KernelIdeal.Gen
open Idealize.ShloMosaic Idealize.ShloMosaic.ValueIdx
open Idealize.ShloMosaic.TcCoe
open Idealize.ShloMosaic.StableHlo (held wp_hlo_within)
open Idealize.ShloMosaic.Pipeline (ucRefs unscopedBufs_held sub_ucRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

abbrev pinned : Fin 2 → Pipeline.Cfg sig Λ₀ := Pipeline.pin (pcfgs (F := F)) adm

theorem hinj : Function.Injective (Pipeline.cellOf (nD := nD) (τ := τ) (pinned (F := F))) := cellOf_inj

/-- The handshakes' rounds and the pipelines' cells. -/
def u₀ : UU := (initOf (K (F := F)).hsCells (K (F := F)).hsToks,
  initOf (Pipeline.cells (pinned (F := F)) hinj) (Pipeline.launchToks (pinned (F := F)) hinj), 1)

/-- What the TensorCore of `d` gets of it: each pipeline's. -/
def G (d : Dev nD) : sProp 𝕄 :=
  iprop((bigSep Finset.univ fun p : Fin 2 => Pipeline.cellsGhost (pinned (F := F)) EP p d)
    ∗ bigSep Finset.univ fun p : Fin 2 => Pipeline.toksInit (pinned (F := F)) EP p d)

/-- The pipelines' rounds, embedded in one step or in two. -/
theorem own_EP (x : UP) : (BI.own (((Emb.inl : Emb UP (UP × Counters)).trans
    (embR (nD := nD) (τ := τ) (sig := sig) (Ix := HIx 1) (Val := Elt F) (Name := ℕ) (Lvl := ℕ) (A := UH) (B := UP × Counters))) x) : sProp 𝕄) = BI.own (EP x) := by
  unfold EP embR; rfl

theorem launch_ghost : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀ G
  rw [bigSep_sep']
  iintro Hu
  ihave H := (ownU_pair _ _) $$ Hu
  icases H with ⟨HH, HR⟩
  have hp := own_pair_emb (embR (nD := nD) (τ := τ) (sig := sig) (Ix := HIx 1) (Val := Elt F) (Name := ℕ) (Lvl := ℕ) (A := UH) (B := UP × Counters))
    (initOf (Pipeline.cells (pinned (F := F)) hinj) (Pipeline.launchToks (pinned (F := F)) hinj)) (1 : Counters)
  ihave HR := hp $$ HR
  icases HR with ⟨HP, -⟩
  ihave HP := (Entails.of_eq (own_EP _)) $$ HP
  imod (Pipeline.fund_ghost (pinned (F := F)) EP hinj) $$ HP with ⟨Hg, Ht⟩
  imodintro
  isplitl [HH]; · iexact HH
  isplitl [Hg Ht]; · isplitl [Hg] <;> iassumption
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-- The pipelines, one by one. -/
theorem G_two (d : Dev nD) : G (F := F) d ⊢ (iprop((Pipeline.cellsGhost (pinned (F := F)) EP 0 d ∗ Pipeline.toksInit (pinned (F := F)) EP 0 d)
    ∗ Pipeline.cellsGhost (pinned (F := F)) EP 1 d ∗ Pipeline.toksInit (pinned (F := F)) EP 1 d) : sProp 𝕄) := by
  unfold G
  rw [show (Finset.univ : Finset (Fin 2)) = {0, 1} by decide, SparseCore.bigSep_insert' (by decide), bigSep_singleton,
    SparseCore.bigSep_insert' (by decide), bigSep_singleton]
  iintro ⟨⟨H0, H1⟩, K0, K1⟩
  isplitl [H0 K0]; · isplitl [H0] <;> iassumption
  isplitl [H1] <;> iassumption

/-! ## @main -/

/-- What @main leaves: the arrays at the last valuation, the partial sums the tiles'. -/
def FIN (d : Dev nD) : sProp 𝕄 :=
  iprop(∃ f : S32x16x128.Idx → F .f32, ⌜∀ p, RowOK m d p f⌝ ∗ held (SparseCore.T d) (ucRefs τ sig) (W11 m f d))

theorem W1_out (f : S32x16x128.Idx → F .f32) (d : Dev nD) : W1 m f d (dr main_v0) = f := by unfold W1; exact Function.update_self _ _ _
theorem W1_ne (f : S32x16x128.Idx → F .f32) (d : Dev nD) (b : Ref sig .tc) (h : b ≠ main_v0) : W1 m f d (dr b) = W0 m d (dr b) := by
  unfold W1; exact Function.update_of_ne (dr_ne h) _ _

/-- The arrays the call leaves alone. -/
theorem held_rest (f : S32x16x128.Idx → F .f32) (d : Dev nD) : (held (SparseCore.T d) restRefs (W1 m f d) : sProp 𝕄) = held (SparseCore.T d) restRefs (W0 m d) := by
  unfold held
  exact bigSep_congr fun b hb => by
    rw [show W1 m f d b = W0 m d b from by unfold W1; exact Function.update_of_ne (Finset.ne_of_mem_erase hb) _ _]

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = _ from unscopedBufs_held d (W0 m d), held_call d (W0 m d)]
  simp only [main, wp_bind, wp_pure]
  iintro ⟨#Hctx, Hst, ⟨Hb, ⟨Hx, Hm, Hw, Ho, Hrest⟩, Hts, -⟩, HG⟩
  ihave HG := (G_two d) $$ HG
  icases HG with ⟨⟨Hg0, Ht0⟩, Hg1, Ht1⟩
  ihave Hd := (deal m d) $$ [Hx Hm Hw Ho]
  · unfold fullPts
    isplitl [Hx Hm Hw]
    · isplitl [Hx]; · iexact Hx
      isplitl [Hm]; · iexact Hm
      iexact Hw
    iexact Ho
  icases Hd with ⟨Hkeep, Hgo⟩
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hc := (collect m d) $$ [Hkeep Hdn]
  · isplitl [Hkeep]; · iexact Hkeep
    iexact Hdn
  unfold fullPts
  icases Hc with ⟨⟨Hx, Hm, Hw⟩, %f, %hf, Ho⟩
  ihave Hst := (show (K (F := F)).tcSt EH d ((0 : Fin 1).val + 1) ⊢ _ from tcSt_idle (F := F) d) $$ Hst
  icases Hst with ⟨Hi, Hst⟩
  ihave Hh := (Entails.of_eq (held_call d (W1 m f d)).symm) $$ [Hx Hm Hw Ho Hrest]
  · rw [W1_out, W1_ne m f d main_arg0 (by decide), W1_ne m f d main_arg1 (by decide), W1_ne m f d main_arg2 (by decide), held_rest]
    isplitl [Hx]; · iexact Hx
    isplitl [Hm]; · iexact Hm
    isplitl [Hw]; · iexact Hw
    isplitl [Ho] <;> iassumption
  iapply (wp_hlo_within 𝒱 (SparseCore.T d) none Set.univ (op := opBias) (S := ucRefs τ sig) (sub_ucRefs _ (StableHlo.reshape_bufs_sub ..)) (V := W1 m f d)) $$ [Hb Hh]
  · isplitl [Hb]; · iexact Hb
    iexact Hh
  iintro ⟨Hb, Hh⟩
  rw [wp_ret]; imodintro
  iapply (tc_call m f κ d)
  isplitr; · iexact Hctx
  isplitl [Hb]; · iexact Hb
  isplitl [Hh]; · iexact Hh
  isplitl [Hi]; · iexact Hi
  isplitl [Hg0]; · iexact Hg0
  isplitl [Ht0]; · iexact Ht0
  iintro ⟨Hb, Hh, Hi⟩
  iapply (wp_hlo_within 𝒱 (SparseCore.T d) none Set.univ (op := opBias') (S := ucRefs τ sig) (sub_ucRefs _ (StableHlo.reshape_bufs_sub ..)) (V := W3 m f d)) $$ [Hb Hh]
  · isplitl [Hb]; · iexact Hb
    iexact Hh
  iintro ⟨Hb, Hh⟩
  rw [wp_ret]; imodintro
  iapply (wp_hlo_within 𝒱 (SparseCore.T d) none Set.univ (op := opRows) (S := ucRefs τ sig) (sub_ucRefs _ (StableHlo.unary_bufs_sub ..)) (V := W4 m f d)) $$ [Hb Hh]
  · isplitl [Hb]; · iexact Hb
    iexact Hh
  iintro ⟨Hb, Hh⟩
  rw [wp_ret]; imodintro
  iapply (wp_hlo_within 𝒱 (SparseCore.T d) none Set.univ (op := opFlat) (S := ucRefs τ sig) (sub_ucRefs _ (StableHlo.reshape_bufs_sub ..)) (V := W5 m f d)) $$ [Hb Hh]
  · isplitl [Hb]; · iexact Hb
    iexact Hh
  iintro ⟨Hb, Hh⟩
  rw [wp_ret]; imodintro
  iapply (wp_hlo_within 𝒱 (SparseCore.T d) none Set.univ (op := opFlat') (S := ucRefs τ sig) (sub_ucRefs _ (StableHlo.reshape_bufs_sub ..)) (V := W6 m f d)) $$ [Hb Hh]
  · isplitl [Hb]; · iexact Hb
    iexact Hh
  iintro ⟨Hb, Hh⟩
  rw [wp_ret]; imodintro
  iapply (combine_call m f κ d)
  isplitr; · iexact Hctx
  isplitl [Hb]; · iexact Hb
  isplitl [Hh]; · iexact Hh
  isplitl [Hi]; · iexact Hi
  isplitl [Hg1]; · iexact Hg1
  isplitl [Ht1]; · iexact Ht1
  iintro ⟨Hb, Hh, Hi⟩
  iapply (wp_hlo_within 𝒱 (SparseCore.T d) none Set.univ (op := opPairs) (S := ucRefs τ sig) (sub_ucRefs _ (StableHlo.reshape_bufs_sub ..)) (V := W8 m f d)) $$ [Hb Hh]
  · isplitl [Hb]; · iexact Hb
    iexact Hh
  iintro ⟨Hb, Hh⟩
  rw [wp_ret]; imodintro
  iapply (wp_hlo_within 𝒱 (SparseCore.T d) none Set.univ (op := opCut) (S := ucRefs τ sig) (sub_ucRefs _ (StableHlo.unary_bufs_sub ..)) (V := W9 m f d)) $$ [Hb Hh]
  · isplitl [Hb]; · iexact Hb
    iexact Hh
  iintro ⟨Hb, Hh⟩
  rw [wp_ret]; imodintro
  iapply (wp_hlo_within 𝒱 (SparseCore.T d) none Set.univ (op := opJoin) (S := ucRefs τ sig) (sub_ucRefs _ (StableHlo.binary_bufs_sub ..)) (V := W10 m f d)) $$ [Hb Hh]
  · isplitl [Hb]; · iexact Hb
    iexact Hh
  iintro ⟨Hb, Hh⟩
  rw [wp_ret]; imodintro; imodintro
  isplitl [Hst Hi]; · iapply Hst $$ Hi
  isplitl [Hh]
  · unfold FIN
    iexists f
    isplitr; · ipureintro; exact hf
    iexact Hh
  isplitl [Hb] <;> iassumption

/-! ## The final state -/

/-- The memory's arrays are those the core leaves. -/
def fq (d : Dev nD) (s' : Phys nD τ sig (Elt F)) : Prop :=
  ∃ f : S32x16x128.Idx → F .f32, (∀ p, RowOK m d p f) ∧ ∀ b ∈ ucRefs τ sig, s'.mem.mem (d, b) = W11 m f d b

theorem read_each (f : S32x16x128.Idx → F .f32) (d : Dev nD) (s' : Phys nD τ sig (Elt F)) (S : Finset (DevRef τ sig)) :
    iprop((bigSep S fun b => (((d, b) : Loc nD τ sig) ↦{fullShare} W11 m f d b : sProp 𝕄)) ∗ SI s')
      ⊢ (⌜∀ b ∈ S, s'.mem.mem (d, b) = W11 m f d b⌝ : sProp 𝕄) := by
  induction S using Finset.induction_on with
  | empty => iintro -; ipureintro; exact fun _ h => absurd h (Finset.notMem_empty _)
  | insert b S hb ih =>
    rw [SparseCore.bigSep_insert' hb]
    iintro ⟨⟨Hb, HS⟩, HSI⟩
    icombine HSI Hb gives %h
    ihave H := ih $$ [HS HSI]
    · isplitl [HS] <;> iassumption
    icases H with %hS
    ipureintro
    intro c hc
    rcases Finset.mem_insert.mp hc with rfl | hc
    · exact funext fun i => h i (Finset.mem_univ (α := Idx ((d, c) : Loc nD τ sig)) i)
    · exact hS c hc

theorem hfin (d : Dev nD) (s' : Phys nD τ sig (Elt F)) : iprop(FIN m d ∗ SI s') ⊢ (⌜fq m d s'⌝ : sProp 𝕄) := by
  unfold FIN held
  iintro ⟨⟨%f, %hf, Hh⟩, HSI⟩
  ihave H := (read_each m f d s' (ucRefs τ sig)) $$ [Hh HSI]
  · isplitl [Hh] <;> iassumption
  icases H with %h
  ipureintro
  exact ⟨f, hf, h⟩

/-- The run's conclusion. -/
def RunPost : PUnit × MemSt nD τ sig (Elt F) → Prop := fun r =>
  (∀ d : Dev nD, ∃ f : S32x16x128.Idx → F .f32, (∀ p, RowOK m d p f) ∧ ∀ b ∈ ucRefs τ sig, r.2.mem (d, b) = W11 m f d b) ∧ r.2.sem = fun _ => 0

theorem run_main [∀ e, Nonempty (Elt F e)] : θ_run (Cert.KernelIdeal.defs (F := F)) (Cert.KernelIdeal.threads (F := F)) ⟨m, fun _ => 0, ρ⟩ (RunPost m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (launch_ghost m)) (hmain m ρ) (fq m) (hfin m) (RunPost m) (fun _ h hz => ⟨h, hz⟩)

end Cert.KernelIdeal.Tile

end
-- ==== Proof.Ideal.Ends.lean ====
/- What the run leaves in the arguments: nothing of the main core's chain writes them, so each ends as it began. -/
module

public import proofs.«01_k».proof.Proof.Ideal.Run

@[expose] public section

noncomputable section

namespace Cert.KernelIdeal.Tile

open Idealize.ShloMosaic Idealize.SL.Sem

variable {F : FTy → Type} [FloatOps F]
variable (m : (ℓ : Loc nD τ sig) → Buf (Elt F) ℓ) (ρ : Dev nD → PrngReg)

/-- The arrays the main core's chain writes. -/
abbrev written : List (Ref sig .tc) :=
  [main_v0, main_v1, main_v2, main_v3, main_v4, main_v5, main_v6, main_v7, main_v8, main_v9, main_v10]

/-- An operation that writes only `y` keeps every other array. -/
theorem result_keeps (op : HloOp τ sig (Elt F)) (y b : Ref sig .tc) (hw : op.writes = {dr y}) (h : b ≠ y) (V : Valuation τ sig (Elt F)) :
    op.result V (dr b) = V (dr b) :=
  op.result_of_not_mem V (by rw [hw]; exact fun hm => dr_ne h (Finset.mem_singleton.mp hm))

/-- An array the chain does not write ends as it began. -/
theorem W11_kept (f : S32x16x128.Idx → F .f32) (d : Dev nD) (b : Ref sig .tc) (h : b ∉ written) : W11 m f d (dr b) = m (d, dr b) := by
  have hn : ∀ y ∈ written, b ≠ y := fun y hy e => h (e ▸ hy)
  unfold W11 W10 W9
  rw [result_keeps opJoin main_v10 b rfl (hn _ (by decide)), result_keeps opCut main_v9 b rfl (hn _ (by decide)),
    result_keeps opPairs main_v8 b rfl (hn _ (by decide))]
  unfold W8
  rw [Function.update_of_ne (dr_ne (hn main_v7 (by decide)))]
  unfold W7 W6 W5 W4
  rw [result_keeps opFlat' main_v6 b rfl (hn _ (by decide)), result_keeps opFlat main_v5 b rfl (hn _ (by decide)),
    result_keeps opRows main_v4 b rfl (hn _ (by decide)), result_keeps opBias' main_v3 b rfl (hn _ (by decide))]
  unfold W3
  rw [Function.update_of_ne (dr_ne (hn main_v2 (by decide)))]
  unfold W2
  rw [result_keeps opBias main_v1 b rfl (hn _ (by decide)), W1_ne m f d b (hn main_v0 (by decide))]
  rfl

/-- The whole run with its arguments: each device's result array is the chain's, for some outcome of the SparseCore call
    that meets its row claims; the arguments are as they were and every semaphore is at zero. -/
theorem run_ends [∀ e, Nonempty (Elt F e)] :
    θ_run (Cert.KernelIdeal.defs (F := F)) (Cert.KernelIdeal.threads (F := F)) ⟨m, fun _ => 0, ρ⟩ (fun r =>
      (∀ c : Dev nD, (∃ f : S32x16x128.Idx → F .f32, (∀ p, RowOK m c p f) ∧ r.2.mem ((c.tc : Thread nD τ).loc main_v10) = W11 m f c (dr main_v10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run _ _ _).mono (fun r h => ⟨fun c => by
      obtain ⟨f, hf, hb⟩ := h.1 c
      exact ⟨⟨f, hf, hb (dr main_v10) (by decide)⟩,
        (hb (dr main_arg0) (by decide)).trans (W11_kept m f c main_arg0 (by decide)),
        (hb (dr main_arg1) (by decide)).trans (W11_kept m f c main_arg1 (by decide)),
        (hb (dr main_arg2) (by decide)).trans (W11_kept m f c main_arg2 (by decide)),
        (hb (dr main_arg3) (by decide)).trans (W11_kept m f c main_arg3 (by decide))⟩, h.2⟩) (run_main m ρ)

end Cert.KernelIdeal.Tile

end
-- ==== Proof.Value.Terms.lean ====
/-
  THE RESULT AS A SUM.  Over the extended reals entry `(b, o)` of the result is the bias `o` plus the sum over all positions of the gated input
  times the mask times the weight (`conv`).  Here that sum, what the gate is, and how a sum over 64 positions splits into blocks.
-/
module

public import Idealize.ShloMosaic.PureOps.Ideal
public import Idealize.ShloMosaic.PureOps.Ideal.Laws
public import Idealize.ShloMosaic.Lib.ValueIdx
public import Idealize.ShloMosaic.Lib.ValueIdxCore

@[expose] public section

noncomputable section

namespace Cert.Conv

open Idealize.ShloMosaic Idealize.ShloMosaic.ValueIdx

/-! ## The gate -/

/-- Whether an entry's magnitude passes the threshold. -/
def passes (v : EReal) : BitVec 1 :=
  FloatOps.cmpf (F := Ideal) (φ := .f32) .ogt (FloatOps.absf (F := Ideal) (φ := .f32) v) (FloatOps.ofBits (F := Ideal) .f32 0x322BCC77#32)

/-- The entry where it passes, zero elsewhere. -/
def keep (v : EReal) : EReal := Scalar.select (passes v) v 0

/-- Choosing by a bit between an entry and zero is multiplying by the bit. -/
theorem keep_eq_mul (v : EReal) : keep v = v * FloatOps.uitofp (F := Ideal) .f32 (passes v) := by
  unfold keep Scalar.select
  generalize passes v = c
  have hc : c = 0#1 ∨ c = 1#1 := by
    revert c; decide
  rcases hc with rfl | rfl
  · rw [if_neg (by decide)]
    show (0 : EReal) = v * ((((0#1 : BitVec 1).toNat : ℝ)) : EReal)
    simp
  · rw [if_pos (show (1#1 : BitVec 1) = 1 from rfl)]
    show v = v * ((((1#1 : BitVec 1).toNat : ℝ)) : EReal)
    simp

/-! ## The sum -/

variable (x : (⟨5, ![64, 1, 64, 64, 64]⟩ : Shape).Idx → EReal) (m : (⟨5, ![1, 1, 64, 64, 64]⟩ : Shape).Idx → EReal)
  (w : (⟨5, ![2, 1, 64, 64, 64]⟩ : Shape).Idx → EReal)

/-- One position's part of entry `(b, o)`. -/
def term (b : Fin 64) (o : Fin 2) (d h c : Fin 64) : EReal :=
  keep (x (ix5 b 0 d h c)) * m (ix5 0 0 d h c) * w (ix5 o 0 d h c)

/-- All positions' parts. -/
def conv (b : Fin 64) (o : Fin 2) : EReal := ∑ d : Fin 64, ∑ h : Fin 64, ∑ c : Fin 64, term x m w b o d h c

/-! ## Sums in blocks -/

/-- A sum over `a * b` positions, block by block. -/
theorem sum_blocks {M : Type} [AddCommMonoid M] {n : ℕ} (a b : ℕ) (h : a * b = n) (f : Fin n → M) :
    ∑ d, f d = ∑ t : Fin a, ∑ e : Fin b, f ⟨b * t.val + e.val, by
      subst h
      calc b * t.val + e.val < b * t.val + b := Nat.add_lt_add_left e.isLt _
        _ = b * (t.val + 1) := rfl
        _ ≤ b * a := Nat.mul_le_mul_left _ t.isLt
        _ = a * b := Nat.mul_comm _ _⟩ := by
  subst h
  rw [← finProdFinEquiv.sum_comp, Fintype.sum_prod_type]
  refine Finset.sum_congr rfl fun t _ => Finset.sum_congr rfl fun e _ => congrArg f (Fin.ext ?_)
  show e.val + b * t.val = b * t.val + e.val
  exact Nat.add_comm _ _

/-- The planes in eight groups of eight, as the blocks take them. -/
theorem conv_blocks (b : Fin 64) (o : Fin 2) :
    conv x m w b o = ∑ t : Fin 8, ∑ e : Fin 8, ∑ h : Fin 64, ∑ c : Fin 64, term x m w b o ⟨8 * t.val + e.val, by omega⟩ h c :=
  sum_blocks (n := 64) 8 8 rfl (fun d => ∑ h : Fin 64, ∑ c : Fin 64, term x m w b o d h c)

/-- The planes in pairs and each line's entries by their lane, as the tiles take them: first over the lanes, then over the tiles. -/
theorem conv_lanes (b : Fin 64) (o : Fin 2) :
    conv x m w b o = ∑ l : Fin 16, ∑ p : Fin 32, ∑ e : Fin 2, ∑ h : Fin 64, ∑ g : Fin 4,
      term x m w b o ⟨2 * p.val + e.val, by omega⟩ h ⟨16 * g.val + l.val, by omega⟩ := by
  refine (sum_blocks (n := 64) 32 2 rfl (fun d => ∑ h : Fin 64, ∑ c : Fin 64, term x m w b o d h c)).trans ?_
  refine Eq.trans (Finset.sum_congr rfl fun p _ => ?_) Finset.sum_comm
  refine Eq.trans (Finset.sum_congr rfl fun e _ => ?_) Finset.sum_comm
  refine Eq.trans (Finset.sum_congr rfl fun h _ => ?_) Finset.sum_comm
  exact (sum_blocks (n := 64) 4 16 rfl _).trans Finset.sum_comm

end Cert.Conv

end
-- ==== Proof.Value.Reference.lean ====
/-
  WHAT THE REFERENCE COMPUTES: entry `(b, o)` is `conv` plus the bias.  Its contraction runs over the four axes after the batch; the second of
  size one, so over positions.
-/
module

public import proofs.«01_k».proof.Proof.Value.Terms
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Conv

open Cert.ReferenceIdeal Cert.ReferenceIdeal.Gen Cert.ReferenceIdeal.Read
open Idealize.ShloMosaic Idealize.ShloMosaic.ValueIdx

/-- The reference's contraction. -/
abbrev refDot := dot_S64x1x64x64x64_S2x1x64x64x64_S64x2_1234_1234_0_0_n_n

/-- A contraction index's position. -/
def position (k : refDot.contr.Idx) : Fin 64 × Fin 64 × Fin 64 :=
  (k ⟨1, by decide⟩, k ⟨2, by decide⟩, k ⟨3, by decide⟩)

theorem position_bijective : Function.Bijective position := by
  constructor
  · intro k k' h
    funext a
    match a with
    | ⟨0, _⟩ => exact Fin.ext (by
        have h1 : (k ⟨0, by decide⟩).val < 1 := (k ⟨0, by decide⟩).isLt
        have h2 : (k' ⟨0, by decide⟩).val < 1 := (k' ⟨0, by decide⟩).isLt
        show (k ⟨0, by decide⟩).val = (k' ⟨0, by decide⟩).val
        omega)
    | ⟨1, _⟩ => exact congrArg Prod.fst h
    | ⟨2, _⟩ => exact congrArg (fun q => q.2.1) h
    | ⟨3, _⟩ => exact congrArg (fun q => q.2.2) h
  · intro q
    exact ⟨fun a => match a with
      | ⟨0, _⟩ => (0 : Fin 1)
      | ⟨1, _⟩ => q.1
      | ⟨2, _⟩ => q.2.1
      | ⟨3, _⟩ => q.2.2, rfl⟩

/-- The reference's entry is the sum over the positions plus the bias. -/
theorem ref_value (x : S64x1x64x64x64.Idx → EReal) (m : S1x1x64x64x64.Idx → EReal) (w : S2x1x64x64x64.Idx → EReal) (bias : S2.Idx → EReal)
    (b : Fin 64) (o : Fin 2) : val_main_v10 (F := Ideal) x m w bias (ix2 b o) = conv x m w b o + bias (ix1 o) := by
  rw [val_main_v10_apply, val_main_v9_apply, val_main_v8_apply]
  refine congrArg₂ (· + ·) ?_ (congrArg bias (funext fun a => Fin.ext (by match a with | ⟨0, _⟩ => rfl)))
  unfold val_main_v7 Host.dotGeneral
  rw [Ideal.dotGeneral_apply]
  rw [show conv x m w b o = ∑ q : Fin 64 × Fin 64 × Fin 64, term x m w b o q.1 q.2.1 q.2.2 from by
    unfold conv; simp only [Fintype.sum_prod_type]]
  rw [← position_bijective.sum_comp]
  refine Finset.sum_congr rfl fun k _ => ?_
  have h0 : (k ⟨0, by decide⟩).val < 1 := (k ⟨0, by decide⟩).isLt
  have hl : refDot.lhsIdx (ix2 b o) k = ix5 b 0 (position k).1 (position k).2.1 (position k).2.2 := funext fun a => Fin.ext (by
    match a with
    | ⟨0, _⟩ => rfl
    | ⟨1, _⟩ => show (k ⟨0, by decide⟩).val = 0; omega
    | ⟨2, _⟩ => rfl
    | ⟨3, _⟩ => rfl
    | ⟨4, _⟩ => rfl)
  have hr : refDot.rhsIdx (ix2 b o) k = ix5 o 0 (position k).1 (position k).2.1 (position k).2.2 := funext fun a => Fin.ext (by
    match a with
    | ⟨0, _⟩ => rfl
    | ⟨1, _⟩ => show (k ⟨0, by decide⟩).val = 0; omega
    | ⟨2, _⟩ => rfl
    | ⟨3, _⟩ => rfl
    | ⟨4, _⟩ => rfl)
  rw [hl, hr]
  unfold term
  refine congrArg (· * _) ?_
  rw [val_main_v6_apply, val_main_v5_apply, val_main_v4_apply, val_main_v3_apply, val_main_v2_apply, keep_eq_mul]
  refine Eq.trans ?_ (mul_right_comm _ _ _)
  refine congrArg₂ (· * ·) (congrArg₂ (· * ·) rfl (congrArg m (funext fun a => Fin.ext ?_))) rfl
  match a with
  | ⟨0, _⟩ => rfl
  | ⟨1, _⟩ => rfl
  | ⟨2, _⟩ => rfl
  | ⟨3, _⟩ => rfl
  | ⟨4, _⟩ => rfl

end Cert.Conv

end
-- ==== Proof.Value.Payloads.lean ====
/-
  WHAT THE TWO TENSORCORE PAYLOADS ADD UP TO over the extended reals, at one entry: a block's gated products over its positions, and the combine's
  sum over tiles and lanes.
-/
module

public import proofs.«01_k».proof.Proof.Value.Terms
public import proofs.«01_k».proof.Proof.Gen.KernelIdeal.Skeleton
public import Idealize.ShloMosaic.Lib.Pipeline.Value
public import Idealize.ShloMosaic.Lib.Pointwise.Reduce

@[expose] public section

noncomputable section

namespace Cert.Conv

open Cert.KernelIdeal Cert.KernelIdeal.Gen
open Idealize.ShloMosaic hiding ix1 ix2 ix3 ix4 ix5
open Idealize.ShloMosaic.ValueIdx

/-! ## A block -/

/-- A block's position, member `b` fixed. -/
def inBlock (b : Fin 38) (k : Fin 8 × Fin 64 × Fin 64) : S38x1x8x64x64.Idx := ix5 b 0 k.1 k.2.1 k.2.2

/-- The reduction over all axes but the first. -/
theorem block_sum (v : FVec Ideal S38x1x8x64x64 .f32) (b : Fin 38) :
    multiReduction (F := Ideal) (φ := .f32) .add [1, 2, 3, 4] S38 v 0x00000000#32 reduces_S38x1x8x64x64_S38 (.inl rfl) rfl (ix1 b)
      = ∑ e : Fin 8, ∑ h : Fin 64, ∑ c : Fin 64, (v (ix5 b 0 e h c) : EReal) := by
  show ∑ i ∈ Finset.univ.filter (fun i => reduces_S38x1x8x64x64_S38.drop i = ix1 b), (v i : EReal) = _
  refine (Finset.sum_filter_eq_sum_of_fiber _ (inBlock b) ?_ ?_ _).trans ?_
  · intro k k' e
    exact Prod.ext (congrFun e 2) (Prod.ext (congrFun e 3) (congrFun e 4))
  · intro i
    constructor
    · intro e
      refine ⟨(i 2, i 3, i 4), funext fun a => Fin.ext ?_⟩
      match a with
      | ⟨0, _⟩ => exact (congrArg Fin.val (congrFun e 0)).symm
      | ⟨1, _⟩ =>
        have h1 : (i 1).val < 1 := (i 1).isLt
        show 0 = (i 1).val; omega
      | ⟨2, _⟩ => rfl
      | ⟨3, _⟩ => rfl
      | ⟨4, _⟩ => rfl
    · rintro ⟨k, rfl⟩
      exact funext fun a => Fin.ext (by match a with | ⟨0, _⟩ => rfl)
  · simp only [Fintype.sum_prod_type]; rfl

/-- A block's one plane of values spread over the members. -/
theorem spread (M : Vec Ideal S1x1x8x64x64 .f32) (b : Fin 38) (e : Fin 8) (h c : Fin 64) :
    broadcastTo S38x1x8x64x64 M broadcasts_S1x1x8x64x64_S38x1x8x64x64 (ix5 b 0 e h c) = M (ix5 0 0 e h c) :=
  broadcastTo_apply _ _ _ _ fun a => by
    match a with
    | ⟨0, _⟩ => rfl
    | ⟨1, _⟩ => rfl
    | ⟨2, _⟩ => rfl
    | ⟨3, _⟩ => rfl
    | ⟨4, _⟩ => rfl

/-- One channel's products of a block. -/
def products (X : Vec Ideal S38x1x8x64x64 .f32) (M A : Vec Ideal S1x1x8x64x64 .f32) : FVec Ideal S38x1x8x64x64 .f32 :=
  mulf (mulf (select (cmpf .ogt (absf X) (broadcast S38x1x8x64x64 (Scalar.ofBits (F := Ideal) .f32 0x322BCC77#32))) X
      (broadcast S38x1x8x64x64 (Scalar.ofBits (F := Ideal) .f32 0x00000000#32)))
    (broadcastTo S38x1x8x64x64 M broadcasts_S1x1x8x64x64_S38x1x8x64x64)) (broadcastTo S38x1x8x64x64 A broadcasts_S1x1x8x64x64_S38x1x8x64x64)

theorem products_apply (X : Vec Ideal S38x1x8x64x64 .f32) (M A : Vec Ideal S1x1x8x64x64 .f32) (b : Fin 38) (e : Fin 8) (h c : Fin 64) :
    (products X M A (ix5 b 0 e h c) : EReal) = keep (X (ix5 b 0 e h c)) * M (ix5 0 0 e h c) * A (ix5 0 0 e h c) := by
  rw [← spread M b, ← spread A b]
  show Scalar.select (passes (X (ix5 b 0 e h c))) (X (ix5 b 0 e h c)) (Scalar.ofBits (F := Ideal) .f32 0x00000000#32 : EReal) * _ * _ = _
  rw [show (Scalar.ofBits (F := Ideal) .f32 0x00000000#32 : EReal) = 0 from Ideal.ofBits_zero_f32]
  rfl

/-- A block's payload, at member `b` and channel `o`. -/
theorem block_entry (X : Vec Ideal S38x1x8x64x64 .f32) (M : Vec Ideal S1x1x8x64x64 .f32) (A : Fin 2 → Vec Ideal S1x1x8x64x64 .f32) (b : Fin 38) (o : Fin 2) :
    (k1_pay1 X M (A 0) (A 1) (ix2 b o) : EReal)
      = ∑ e : Fin 8, ∑ h : Fin 64, ∑ c : Fin 64, keep (X (ix5 b 0 e h c)) * M (ix5 0 0 e h c) * A o (ix5 0 0 e h c) := by
  have hs (B : Vec Ideal S1x1x8x64x64 .f32) : (shapeCast S38x1 (multiReduction (F := Ideal) (φ := .f32) .add [1, 2, 3, 4] S38 (products X M B) 0x00000000#32
        reduces_S38x1x8x64x64_S38 (.inl rfl) rfl) shapeCasts_S38_S38x1 (ix2 b 0) : EReal)
      = ∑ e : Fin 8, ∑ h : Fin 64, ∑ c : Fin 64, keep (X (ix5 b 0 e h c)) * M (ix5 0 0 e h c) * B (ix5 0 0 e h c) := by
    rw [shapeCast_apply _ _ (ix2 b 0) (ix1 b) (by rw [Shape.rowMajor_val_one, Shape.rowMajor_val_two]; show b.val = b.val * 1 + 0; omega), block_sum]
    simp only [products_apply]
  match o with
  | ⟨0, _⟩ =>
    refine Eq.trans (concatenate_pair_apply_left (t := S38x2) (s₁ := S38x1) (s₂ := S38x1) 1 _ _ concatenates_S38x1_S38x1_S38x2_d1 _ rfl (ix2 b 0) ?_) (hs (A 0))
    intro a; match a with
    | ⟨0, _⟩ => rfl
    | ⟨1, _⟩ => rfl
  | ⟨1, _⟩ =>
    refine Eq.trans (concatenate_pair_apply_right (t := S38x2) (s₁ := S38x1) (s₂ := S38x1) 1 _ _ concatenates_S38x1_S38x1_S38x2_d1 _ rfl rfl (ix2 b 0) ?_ rfl) (hs (A 1))
    intro a ha; match a with
    | ⟨0, _⟩ => rfl
    | ⟨1, _⟩ => exact absurd rfl ha

/-- The bias row spread over the members. -/
theorem bias_rows (v : Vec Ideal S1x2 .f32) (b : Fin 38) (o : Fin 2) :
    broadcastTo S38x2 (shapeCast S1x2 v shapeCasts_S1x2_S1x2) broadcasts_S1x2_S38x2 (ix2 b o) = v (ix2 0 o) := by
  rw [broadcastTo_apply _ _ (ix2 b o) (ix2 0 o) (fun a => by
    match a with
    | ⟨0, _⟩ => rfl
    | ⟨1, _⟩ => rfl)]
  exact shapeCast_apply _ _ _ _ rfl

/-- The first block's payload is its sum with the bias. -/
theorem first_entry (X : Vec Ideal S38x1x8x64x64 .f32) (M : Vec Ideal S1x1x8x64x64 .f32) (A B : Vec Ideal S1x1x8x64x64 .f32) (v : Vec Ideal S1x2 .f32) (b : Fin 38)
    (o : Fin 2) : (k1_pay2 X M A B v (ix2 b o) : EReal) = k1_pay1 X M A B (ix2 b o) + v (ix2 0 o) := by
  rw [← bias_rows v b o]; rfl

/-- A later block's payload is what was there and its sum. -/
theorem later_entry (X : Vec Ideal S38x1x8x64x64 .f32) (M : Vec Ideal S1x1x8x64x64 .f32) (A B : Vec Ideal S1x1x8x64x64 .f32) (v : Vec Ideal S38x2 .f32) (b : Fin 38)
    (o : Fin 2) : (k1_pay3 X M A B v (ix2 b o) : EReal) = v (ix2 b o) + k1_pay1 X M A B (ix2 b o) := by
  rw [← shapeCast_apply v shapeCasts_S38x2_S38x2 (ix2 b o) (ix2 b o) rfl]; rfl

/-! ## The combine -/

/-- The sum over the tiles. -/
def overTiles (f : Vec Ideal S32x16x128 .f32) : FVec Ideal S16x128 .f32 :=
  multiReduction (F := Ideal) (φ := .f32) .add [0] S16x128 (shapeCast S32x16x128 f shapeCasts_S32x16x128_S32x16x128) 0x00000000#32
    reduces_S32x16x128_S16x128 (.inl rfl) rfl

theorem overTiles_apply (f : Vec Ideal S32x16x128 .f32) (r : Fin 16) (c : Fin 128) :
    (overTiles f (ix2 r c) : EReal) = ∑ p : Fin 32, (f (ix3 p r c) : EReal) := by
  refine (Ideal.reduceAdd_r3_a0 reduces_S32x16x128_S16x128 (shapeCast S32x16x128 f shapeCasts_S32x16x128_S32x16x128) (ix2 r c)).trans ?_
  exact Finset.sum_congr rfl fun p _ => shapeCast_apply _ _ _ _ rfl

/-- The sum over a slot's lanes. -/
def overLanes (g : FVec Ideal S128x16 .f32) : FVec Ideal S128 .f32 :=
  multiReduction (F := Ideal) (φ := .f32) .add [1] S128 g 0x00000000#32 reduces_S128x16_S128 (.inl rfl) rfl

theorem overLanes_apply (g : FVec Ideal S128x16 .f32) (k : Fin 128) : (overLanes g (ix1 k) : EReal) = ∑ l : Fin 16, (g (ix2 k l) : EReal) :=
  (Ideal.reduceAdd_r2_a1 reduces_S128x16_S128 g (ix1 k)).trans rfl

/-- Entry `k` of the combine: slot `k`'s lanes over all tiles, plus the bias there. -/
theorem combine_entry (f : Vec Ideal S32x16x128 .f32) (v : Vec Ideal S1x128 .f32) (k : Fin 128) :
    (k2_pay1 f v (ix2 0 k) : EReal)
      = (∑ l : Fin 16, ∑ p : Fin 32, (f (ix3 p ⟨k.val / 8, by omega⟩ ⟨16 * (k.val % 8) + l.val, by omega⟩) : EReal)) + v (ix2 0 k) := by
  refine (show (k2_pay1 f v (ix2 0 k) : EReal)
    = shapeCast S1x128 (overLanes (shapeCast S128x16 (overTiles f) shapeCasts_S16x128_S128x16)) shapeCasts_S128_S1x128 (ix2 0 k)
      + shapeCast S1x128 v shapeCasts_S1x128_S1x128 (ix2 0 k) from rfl).trans ?_
  refine congrArg₂ (· + ·) ?_ (shapeCast_apply _ _ _ _ rfl)
  rw [shapeCast_apply _ _ (ix2 0 k) (ix1 k) (by rw [Shape.rowMajor_val_one, Shape.rowMajor_val_two]; show k.val = 0 * 128 + k.val; omega), overLanes_apply]
  refine Finset.sum_congr rfl fun l _ => ?_
  rw [shapeCast_apply _ _ (ix2 k l) (ix2 ⟨k.val / 8, by omega⟩ ⟨16 * (k.val % 8) + l.val, by omega⟩ : S16x128.Idx) (by
    rw [Shape.rowMajor_val_two, Shape.rowMajor_val_two]
    show k.val / 8 * 128 + (16 * (k.val % 8) + l.val) = k.val * 16 + l.val
    omega), overTiles_apply]

end Cert.Conv

end
-- ==== Proof.Value.Blocks.lean ====
/-
  THE TENSORCORE'S MEMBERS.  Point `t` of the grid sees planes `8 t … 8 t + 7` of the three arrays; accumulated over the eight points, a member's
  entry is the whole sum plus the bias.
-/
module

public import proofs.«01_k».proof.Proof.Value.Payloads
public import proofs.«01_k».proof.Proof.Ideal.RegionTc

@[expose] public section

noncomputable section

namespace Cert.Conv

open Cert.KernelIdeal Cert.KernelIdeal.Gen Cert.KernelIdeal.Tile
open Idealize.ShloMosaic hiding ix1 ix2 ix3 ix4 ix5
open Idealize.ShloMosaic.ValueIdx
open Idealize.ShloMosaic.TcCoe

variable (V : Vals (F := Ideal)) (c : Dev nD)

/-- The windows' block indices along the planes. -/
theorem plane0 : ∀ t : Fin grid1.N, cc1_transform_0 (grid1.coords t) 2 = t.val := by decide
theorem plane1 : ∀ t : Fin grid1.N, cc1_transform_1 (grid1.coords t) 2 = t.val := by decide
theorem plane2 : ∀ t : Fin grid1.N, cc1_transform_2 (grid1.coords t) 2 = t.val := by decide

theorem points (t : Fin grid1.N) : t.val < 8 := Nat.lt_of_lt_of_eq t.isLt (by decide)

/-- The plane a block's `e`-th is. -/
abbrev planeOf (t : Fin grid1.N) (e : Fin 8) : Fin 64 := ⟨8 * t.val + e.val, by have := points t; omega⟩

theorem tcX_apply (t : Fin grid1.N) (b : Fin 38) (e : Fin 8) (h k : Fin 64) :
    tcX V c t (ix5 b 0 e h k) = V c main_arg0 (ix5 ⟨b.val, by omega⟩ 0 (planeOf t e) h k) := by
  have hm : (cfg1.win 0).moved (cfg1.grid.coords t) (ix5 b 0 e h k : S38x1x8x64x64.Idx) = true :=
    ((cfg1.win 0).moved_iff _ _).mpr fun a => by
      show _ < ((cfg1.win 0).clip (cfg1.grid.coords t) a).extent _
      rw [uncut0 t a]
      exact ((ix5 b 0 e h k : S38x1x8x64x64.Idx) a).isLt
  unfold tcX Pipeline.Window.fill
  rw [dif_pos hm]
  refine congrArg (V c main_arg0) (funext fun a => Fin.ext ?_)
  match a with
  | ⟨0, _⟩ => show 0 * 38 + 1 * b.val = b.val; omega
  | ⟨1, _⟩ => rfl
  | ⟨2, _⟩ => show cc1_transform_0 (grid1.coords t) 2 * 8 + 1 * e.val = 8 * t.val + e.val; rw [plane0]; omega
  | ⟨3, _⟩ => show 0 * 64 + 1 * h.val = h.val; omega
  | ⟨4, _⟩ => show 0 * 64 + 1 * k.val = k.val; omega

theorem tcMask_apply (t : Fin grid1.N) (e : Fin 8) (h k : Fin 64) :
    tcMask V c t (ix5 0 0 e h k) = V c main_arg1 (ix5 0 0 (planeOf t e) h k) := by
  refine congrArg (V c main_arg1) (funext fun a => Fin.ext ?_)
  match a with
  | ⟨0, _⟩ => rfl
  | ⟨1, _⟩ => rfl
  | ⟨2, _⟩ => show cc1_transform_1 (grid1.coords t) 2 * 8 + 1 * e.val = 8 * t.val + e.val; rw [plane1]; omega
  | ⟨3, _⟩ => show 0 * 64 + 1 * h.val = h.val; omega
  | ⟨4, _⟩ => show 0 * 64 + 1 * k.val = k.val; omega

theorem tcW_apply (t : Fin grid1.N) (o : Fin 2) (e : Fin 8) (h k : Fin 64) :
    tcW V c t (ix5 o 0 e h k) = V c main_arg2 (ix5 o 0 (planeOf t e) h k) := by
  refine congrArg (V c main_arg2) (funext fun a => Fin.ext ?_)
  match a with
  | ⟨0, _⟩ => show 0 * 2 + 1 * o.val = o.val; omega
  | ⟨1, _⟩ => rfl
  | ⟨2, _⟩ => show cc1_transform_2 (grid1.coords t) 2 * 8 + 1 * e.val = 8 * t.val + e.val; rw [plane2]; omega
  | ⟨3, _⟩ => show 0 * 64 + 1 * h.val = h.val; omega
  | ⟨4, _⟩ => show 0 * 64 + 1 * k.val = k.val; omega

theorem tcBias_apply (t : Fin grid1.N) (o : Fin 2) : tcBias V c t (ix2 0 o) = V c main_v1 (ix2 0 o) := by
  refine congrArg (V c main_v1) (funext fun a => Fin.ext ?_)
  match a with
  | ⟨0, _⟩ => rfl
  | ⟨1, _⟩ => show 0 * 2 + 1 * o.val = o.val; omega

/-- The two channels' weights of a block, by channel. -/
def wtOf (x : Vec Ideal S2x1x8x64x64 .f32) : Fin 2 → Vec Ideal S1x1x8x64x64 .f32
  | ⟨0, _⟩ => wtA x
  | ⟨1, _⟩ => wtB x

theorem wtOf_apply (x : Vec Ideal S2x1x8x64x64 .f32) (o : Fin 2) (e : Fin 8) (h k : Fin 64) :
    wtOf x o (ix5 0 0 e h k) = x (ix5 o 0 e h k) := by
  match o with
  | ⟨0, _⟩ =>
    refine congrArg x (funext fun a => Fin.ext ?_)
    match a with
    | ⟨0, _⟩ => rfl
    | ⟨1, _⟩ => rfl
    | ⟨2, _⟩ => show 0 + 1 * e.val = e.val; omega
    | ⟨3, _⟩ => show 0 + 1 * h.val = h.val; omega
    | ⟨4, _⟩ => show 0 + 1 * k.val = k.val; omega
  | ⟨1, _⟩ =>
    refine congrArg x (funext fun a => Fin.ext ?_)
    match a with
    | ⟨0, _⟩ => rfl
    | ⟨1, _⟩ => rfl
    | ⟨2, _⟩ => show 0 + 1 * e.val = e.val; omega
    | ⟨3, _⟩ => show 0 + 1 * h.val = h.val; omega
    | ⟨4, _⟩ => show 0 + 1 * k.val = k.val; omega

/-- A point's own sum. -/
def blockSum (b : Fin 38) (o : Fin 2) (t : Fin 8) : EReal :=
  ∑ e : Fin 8, ∑ h : Fin 64, ∑ k : Fin 64,
    term (V c main_arg0) (V c main_arg1) (V c main_arg2) ⟨b.val, by omega⟩ o ⟨8 * t.val + e.val, by omega⟩ h k

theorem point_entry (t : Fin grid1.N) (b : Fin 38) (o : Fin 2) :
    (k1_pay1 (tcX V c t) (tcMask V c t) (wtA (tcW V c t)) (wtB (tcW V c t)) (ix2 b o) : EReal) = blockSum V c b o ⟨t.val, points t⟩ := by
  refine (block_entry (tcX V c t) (tcMask V c t) (wtOf (tcW V c t)) b o).trans ?_
  refine Finset.sum_congr rfl fun e _ => Finset.sum_congr rfl fun h _ => Finset.sum_congr rfl fun k _ => ?_
  rw [wtOf_apply, tcX_apply, tcMask_apply, tcW_apply]; rfl

/-- The accumulator after point `n`. -/
theorem acc_entry (b : Fin 38) (o : Fin 2) (n : ℕ) (h : n < cfg1.N) (h8 : n < 8) :
    (tcAcc V c n h (ix2 b o) : EReal) = (∑ t : Fin (n + 1), blockSum V c b o ⟨t.val, by omega⟩) + V c main_v1 (ix2 0 o) := by
  induction n with
  | zero =>
    refine (first_entry _ _ _ _ _ b o).trans ?_
    rw [point_entry, tcBias_apply, Fin.sum_univ_one]; rfl
  | succ n ih =>
    refine (later_entry _ _ _ _ _ b o).trans ?_
    rw [ih (Nat.lt_of_succ_lt h) (Nat.lt_of_succ_lt h8), point_entry, Fin.sum_univ_castSucc (n := n + 1), add_right_comm]; rfl

/-- The first region's result: every entry of the first 38 members. -/
theorem blocks_value (b : Fin 38) (o : Fin 2) :
    (tcAcc V c 7 tc_last (ix2 b o) : EReal)
      = conv (V c main_arg0) (V c main_arg1) (V c main_arg2) ⟨b.val, by omega⟩ o + V c main_v1 (ix2 0 o) := by
  rw [acc_entry V c b o 7 tc_last (by decide), conv_blocks]; rfl

end Cert.Conv

end
-- ==== Proof.Value.Lanes.lean ====
/-
  WHAT THE TILES' LANES ADD UP TO.  Over the extended reals a lane of a tile's slot is a plain sum over the positions the lane sees; over all lanes
  and all tiles those are all positions, each once.
-/
module

public import proofs.«01_k».proof.Proof.Value.Terms
public import proofs.«01_k».proof.Proof.Ideal.Tile

@[expose] public section

noncomputable section

namespace Cert.Conv

open Cert.KernelIdeal Cert.KernelIdeal.Gen Cert.KernelIdeal.Tile
open Idealize.ShloMosaic Idealize.ShloMosaic.ValueIdx

theorem zero_word : (Scalar.ofBits (F := Ideal) .f32 0x00000000#32 : EReal) = 0 := Ideal.ofBits_zero_f32

/-- The vector gate is `keep` at each lane. -/
theorem gate_apply (v : FVec Ideal S16 .f32) (l : S16.Idx) : gate v l = keep (v l) := by
  show Scalar.select (passes (v l)) (v l) (Scalar.ofBits (F := Ideal) .f32 0x00000000#32 : EReal) = _
  rw [zero_word]; rfl

/-- The accumulator after `n` rows is the sum of their products. -/
theorem rowAcc_sum (X : S2x2x64x64.Idx → EReal) (W : S2x64x64.Idx → EReal) (b : Fin 2) (n : ℕ) (l : S16.Idx) :
    rowAcc (F := Ideal) X W b n l = ∑ t ∈ Finset.range n, ∑ g : Fin 4, keep (xlane X b t g.val l) * wlane W t g.val l := by
  induction n with
  | zero => exact zero_word
  | succ n ih =>
    rw [Finset.sum_range_succ, ← ih, Fin.sum_univ_four, ← add_assoc, ← add_assoc, ← add_assoc]
    show rowStep (F := Ideal) X W b n (rowAcc X W b n) l = _
    unfold rowStep
    show (((rowAcc (F := Ideal) X W b n l + gate (F := Ideal) (xlane X b n 0) l * wlane W n 0 l)
      + gate (F := Ideal) (xlane X b n 1) l * wlane W n 1 l) + gate (F := Ideal) (xlane X b n 2) l * wlane W n 2 l)
      + gate (F := Ideal) (xlane X b n 3) l * wlane W n 3 l = _
    simp only [gate_apply]
    rfl

/-- The four sums of a chunk by member and weight. -/
theorem chunk4_eq (X : S2x2x64x64.Idx → EReal) (W : Fin 2 → S2x64x64.Idx → EReal) (s : Fin 4) :
    chunk4 (F := Ideal) X (W 0) (W 1) s = rowAcc X (W ⟨s.val % 2, by omega⟩) ⟨s.val / 2, by omega⟩ 128 := by
  unfold chunk4
  generalize rowAcc (F := Ideal) X = R
  match s with
  | ⟨0, h⟩ => exact congrArg₂ (fun V b => R V b 128) (congrArg W (Fin.ext (show 0 = 0 % 2 from rfl))) (Fin.ext (show 0 = 0 / 2 from rfl))
  | ⟨1, h⟩ => exact congrArg₂ (fun V b => R V b 128) (congrArg W (Fin.ext (show 1 = 1 % 2 from rfl))) (Fin.ext (show 0 = 1 / 2 from rfl))
  | ⟨2, h⟩ => exact congrArg₂ (fun V b => R V b 128) (congrArg W (Fin.ext (show 0 = 2 % 2 from rfl))) (Fin.ext (show 1 = 2 / 2 from rfl))
  | ⟨3, h⟩ => exact congrArg₂ (fun V b => R V b 128) (congrArg W (Fin.ext (show 1 = 3 % 2 from rfl))) (Fin.ext (show 1 = 3 / 2 from rfl))

variable (x : S64x1x64x64x64.Idx → EReal) (m : S1x1x64x64x64.Idx → EReal) (w : S2x1x64x64x64.Idx → EReal)

/-- A lane of a tile's slot. -/
theorem tile_slot (p : Fin 32) (k : ℕ) (hk : k < 52) (l : S16.Idx) :
    tileVals (F := Ideal) x m w p.val k l = ∑ e : Fin 2, ∑ h : Fin 64, ∑ g : Fin 4,
      term x m w ⟨38 + k / 2, by omega⟩ ⟨k % 2, by omega⟩ ⟨2 * p.val + e.val, by omega⟩ h
        ⟨16 * g.val + (l 0).val, by have h0 : (l 0).val < 16 := (l 0).isLt; omega⟩ := by
  unfold tileVals
  rw [chunk4_eq _ (fun o => maskedW (F := Ideal) m w o p.val), rowAcc_sum, Finset.sum_range, sum_blocks 2 64 (n := 128) rfl]
  refine Finset.sum_congr rfl fun e _ => Finset.sum_congr rfl fun h _ => Finset.sum_congr rfl fun g _ => ?_
  have h0 : (l 0).val < 16 := (l 0).isLt
  unfold term
  rw [mul_assoc, mul_comm (m _)]
  have hplane : 64 * e.val + h.val = 64 * e.val + h.val := rfl
  have i1 : (64 * e.val + h.val) / 64 % 2 = e.val := by omega
  have i2 : (64 * e.val + h.val) % 64 = h.val := by omega
  refine congrArg₂ (· * ·) (congrArg keep (congrArg x (funext fun a => Fin.ext ?_)))
    (congrArg₂ (· * ·) (congrArg w (funext fun a => Fin.ext ?_)) (congrArg m (funext fun a => Fin.ext ?_)))
  · match a with
    | ⟨0, _⟩ => show (38 + 2 * (k / 4) + k % 4 / 2) % 64 = 38 + k / 2; omega
    | ⟨1, _⟩ => rfl
    | ⟨2, _⟩ => show (2 * p.val + (64 * e.val + h.val) / 64 % 2) % 64 = 2 * p.val + e.val; omega
    | ⟨3, _⟩ => exact i2
    | ⟨4, _⟩ => show (16 * g.val + (l 0).val) % 64 = 16 * g.val + (l 0).val; omega
  · match a with
    | ⟨0, _⟩ => show k % 4 % 2 = k % 2; omega
    | ⟨1, _⟩ => rfl
    | ⟨2, _⟩ => show (2 * p.val + (64 * e.val + h.val) / 64 % 2) % 64 = 2 * p.val + e.val; omega
    | ⟨3, _⟩ => exact i2
    | ⟨4, _⟩ => show (16 * g.val + (l 0).val) % 64 = 16 * g.val + (l 0).val; omega
  · match a with
    | ⟨0, _⟩ => rfl
    | ⟨1, _⟩ => rfl
    | ⟨2, _⟩ => show (2 * p.val + (64 * e.val + h.val) / 64 % 2) % 64 = 2 * p.val + e.val; omega
    | ⟨3, _⟩ => exact i2
    | ⟨4, _⟩ => show (16 * g.val + (l 0).val) % 64 = 16 * g.val + (l 0).val; omega

/-- Slot `k` over all lanes and tiles: the whole sum of member `38 + k / 2` against weight `k % 2`. -/
theorem slots_sum (k : ℕ) (hk : k < 52) :
    ∑ l : Fin 16, ∑ p : Fin 32, tileVals (F := Ideal) x m w p.val k (ix1 l) = conv x m w ⟨38 + k / 2, by omega⟩ ⟨k % 2, by omega⟩ := by
  rw [conv_lanes]
  exact Finset.sum_congr rfl fun l _ => Finset.sum_congr rfl fun p _ => tile_slot x m w p k hk (ix1 l)

end Cert.Conv

end
-- ==== Proof.Value.Result.lean ====
/-
  THE PROGRAM'S RESULT over the extended reals: through the host operations between the calls every entry `(b, o)` is `conv` plus the bias, the first
  38 members by the first region, the other 26 by the tiles and the combine.
-/
module

public import proofs.«01_k».proof.Proof.Value.Blocks
public import proofs.«01_k».proof.Proof.Value.Lanes
public import proofs.«01_k».proof.Proof.Ideal.Ends

@[expose] public section

noncomputable section

namespace Cert.Conv

open Cert.KernelIdeal Cert.KernelIdeal.Gen Cert.KernelIdeal.Tile
open Idealize.ShloMosaic hiding ix1 ix2 ix3 ix4 ix5
open Idealize.ShloMosaic.ValueIdx
open Idealize.ShloMosaic.TcCoe
open Idealize.ShloMosaic.StableHlo (unary_result binary_result reshape_result)

variable (m : (ℓ : Loc nD τ sig) → Buf (Elt Ideal) ℓ) (f : S32x16x128.Idx → Ideal .f32) (d : Dev nD)

/-- The bias argument. -/
abbrev biasArg : S2.Idx → EReal := m (d, dr main_arg3)

/-! ## What the operations leave alone -/

theorem W1_keeps (b : Ref sig .tc) (h : b ≠ main_v0) : W1 m f d (dr b) = m (d, dr b) := by
  unfold W1; exact Function.update_of_ne (dr_ne h) _ _
theorem W2_keeps (b : Ref sig .tc) (h : b ≠ main_v0) (h' : b ≠ main_v1) : W2 m f d (dr b) = m (d, dr b) := by
  unfold W2; exact (result_keeps _ main_v1 b rfl h' _).trans (W1_keeps m f d b h)

/-- From the first region's end to the second's start only the four bias arrays change. -/
theorem W7_keeps (b : Ref sig .tc) (h3 : b ≠ main_v3) (h4 : b ≠ main_v4) (h5 : b ≠ main_v5) (h6 : b ≠ main_v6) :
    W7 m f d (dr b) = W3 m f d (dr b) := by
  unfold W7 W6 W5 W4
  exact (result_keeps _ main_v6 b rfl h6 _).trans ((result_keeps _ main_v5 b rfl h5 _).trans
    ((result_keeps _ main_v4 b rfl h4 _).trans (result_keeps _ main_v3 b rfl h3 _)))

/-! ## The bias arrays -/

theorem bias_first (o : Fin 2) : (V2 m f d main_v1 (ix2 0 o) : EReal) = biasArg m d (ix1 o) := by
  have h : W2 m f d (dr main_v1) = shapeCast S1x2 (W1 m f d (dr main_arg3)) shapeCasts_S2_S1x2 := reshape_result _ _ _ _ _ _ _
  show (W2 m f d (dr main_v1) (ix2 0 o) : EReal) = _
  rw [h, W1_keeps m f d main_arg3 (by decide)]
  exact shapeCast_apply _ _ _ (ix1 o) (by rw [Shape.rowMajor_val_one, Shape.rowMajor_val_two]; show o.val = 0 * 2 + o.val; omega)

theorem W3_arg3 : W3 m f d (dr main_arg3) = m (d, dr main_arg3) :=
  (V3_ne m f d main_arg3 (by decide)).trans (W2_keeps m f d main_arg3 (by decide) (by decide))

theorem bias_second (k : Fin 128) : (V7 m f d main_v6 (ix2 0 k) : EReal) = biasArg m d (ix1 ⟨k.val % 2, by omega⟩) := by
  have h6 : W7 m f d (dr main_v6) = shapeCast S1x128 (W6 m f d (dr main_v5)) shapeCasts_S128_S1x128 := reshape_result _ _ _ _ _ _ _
  have h5 : W6 m f d (dr main_v5) = shapeCast S128 (W5 m f d (dr main_v4)) shapeCasts_S64x2_S128 := reshape_result _ _ _ _ _ _ _
  have h4 : W5 m f d (dr main_v4) = broadcastInDim S64x2 ![0, 1] bcast_S1x2_S64x2_0_1 (W4 m f d (dr main_v3)) := unary_result _ _ _ _ _ _
  have h3 : W4 m f d (dr main_v3) = shapeCast S1x2 (W3 m f d (dr main_arg3)) shapeCasts_S2_S1x2 := reshape_result _ _ _ _ _ _ _
  show (W7 m f d (dr main_v6) (ix2 0 k) : EReal) = _
  rw [h6, shapeCast_apply _ _ (ix2 0 k) (ix1 k) (by rw [Shape.rowMajor_val_one, Shape.rowMajor_val_two]; show k.val = 0 * 128 + k.val; omega),
    h5, shapeCast_apply _ _ (ix1 k) (ix2 ⟨k.val / 2, by omega⟩ ⟨k.val % 2, by omega⟩ : S64x2.Idx)
      (by rw [Shape.rowMajor_val_one, Shape.rowMajor_val_two]; show k.val / 2 * 2 + k.val % 2 = k.val; omega),
    h4, broadcastInDim_apply _ _ _ _ (ix2 0 ⟨k.val % 2, by omega⟩ : S1x2.Idx) (fun a => by
      match a with
      | ⟨0, _⟩ => rfl
      | ⟨1, _⟩ => rfl),
    h3, shapeCast_apply _ _ _ (ix1 ⟨k.val % 2, by omega⟩ : S2.Idx)
      (by rw [Shape.rowMajor_val_one, Shape.rowMajor_val_two]; show k.val % 2 = 0 * 2 + k.val % 2; omega), W3_arg3]

/-! ## The two parts of the result -/

/-- The whole sum over the three array arguments. -/
abbrev convArgs (b : Fin 64) (o : Fin 2) : EReal := conv (m (d, dr main_arg0)) (m (d, dr main_arg1)) (m (d, dr main_arg2)) b o

theorem first_part (b : Fin 38) (o : Fin 2) :
    (W10 m f d (dr main_v2) (ix2 b o) : EReal) = convArgs m d ⟨b.val, by omega⟩ o + biasArg m d (ix1 o) := by
  have h : W10 m f d (dr main_v2) = tcAcc (V2 m f) d 7 tc_last := by
    unfold W10 W9
    refine (result_keeps _ main_v9 main_v2 rfl (by decide) _).trans ((result_keeps _ main_v8 main_v2 rfl (by decide) _).trans ?_)
    exact (V8_ne m f d main_v2 (by decide)).trans
      ((W7_keeps m f d main_v2 (by decide) (by decide) (by decide) (by decide)).trans (V3_out m f d))
  rw [h, blocks_value, bias_first]
  rw [show V2 m f d main_arg0 = m (d, dr main_arg0) from W2_keeps m f d main_arg0 (by decide) (by decide),
    show V2 m f d main_arg1 = m (d, dr main_arg1) from W2_keeps m f d main_arg1 (by decide) (by decide),
    show V2 m f d main_arg2 = m (d, dr main_arg2) from W2_keeps m f d main_arg2 (by decide) (by decide)]

theorem partials_kept : V7 m f d main_v0 = f := by
  refine (W7_keeps m f d main_v0 (by decide) (by decide) (by decide) (by decide)).trans ((V3_ne m f d main_v0 (by decide)).trans ?_)
  show W2 m f d (dr main_v0) = f
  unfold W2 W1
  exact (result_keeps _ main_v1 main_v0 rfl (by decide) _).trans (Function.update_self _ _ _)

/-- A slot of the combine. -/
theorem combine_value (hf : ∀ p : Fin 32, RowOK m d p f) (k : Fin 128) (hk : k.val < 52) :
    (k2_pay1 (V7 m f d main_v0) (V7 m f d main_v6) (ix2 0 k) : EReal)
      = convArgs m d ⟨38 + k.val / 2, by omega⟩ ⟨k.val % 2, by omega⟩ + biasArg m d (ix1 ⟨k.val % 2, by omega⟩) := by
  rw [combine_entry, bias_second, partials_kept]
  refine congrArg (· + _) (Eq.trans (Finset.sum_congr rfl fun l _ => Finset.sum_congr rfl fun p _ => ?_) (slots_sum _ _ _ k.val hk))
  refine Eq.trans ?_ (hf p k.val hk (ix1 l))
  refine congrArg f (funext fun a => Fin.ext ?_)
  match a with
  | ⟨0, _⟩ => rfl
  | ⟨1, _⟩ => show k.val / 8 = k.val / 8 % 16; omega
  | ⟨2, _⟩ => show 16 * (k.val % 8) + l.val = (16 * (k.val % 8) + l.val) % 128; omega

theorem second_part (hf : ∀ p : Fin 32, RowOK m d p f) (b : Fin 26) (o : Fin 2) :
    (W10 m f d (dr main_v9) (ix2 b o) : EReal) = convArgs m d ⟨38 + b.val, by omega⟩ o + biasArg m d (ix1 o) := by
  have h9 : W10 m f d (dr main_v9) = extractStridedSlice S26x2 ![0, 0] (W9 m f d (dr main_v8)) slices_S64x2_S26x2_0_0 := unary_result _ _ _ _ _ _
  have h8 : W9 m f d (dr main_v8) = shapeCast S64x2 (W8 m f d (dr main_v7)) shapeCasts_S1x128_S64x2 := reshape_result _ _ _ _ _ _ _
  have h7 : W8 m f d (dr main_v7) = k2_pay1 (V7 m f d main_v0) (V7 m f d main_v6) := V8_out m f d
  rw [h9, extractStridedSlice_apply _ _ _ _ (ix2 ⟨b.val, by omega⟩ o : S64x2.Idx) (fun a => by
      match a with
      | ⟨0, _⟩ => show b.val = 0 + b.val; omega
      | ⟨1, _⟩ => show o.val = 0 + o.val; omega),
    h8, shapeCast_apply _ _ _ (ix2 0 ⟨2 * b.val + o.val, by omega⟩ : S1x128.Idx)
      (by rw [Shape.rowMajor_val_two, Shape.rowMajor_val_two]; show 0 * 128 + (2 * b.val + o.val) = b.val * 2 + o.val; omega),
    h7, combine_value m f d hf _ (by show 2 * b.val + o.val < 52; omega)]
  have e1 : (⟨38 + (2 * b.val + o.val) / 2, by omega⟩ : Fin 64) = ⟨38 + b.val, by omega⟩ := Fin.ext (by show 38 + (2 * b.val + o.val) / 2 = 38 + b.val; omega)
  have e2 : (⟨(2 * b.val + o.val) % 2, by omega⟩ : Fin 2) = o := Fin.ext (by show (2 * b.val + o.val) % 2 = o.val; omega)
  show convArgs m d ⟨38 + (2 * b.val + o.val) / 2, _⟩ ⟨(2 * b.val + o.val) % 2, _⟩ + biasArg m d (ix1 ⟨(2 * b.val + o.val) % 2, _⟩) = _
  rw [e1, e2]

/-- Every entry of the result. -/
theorem result_value (hf : ∀ p : Fin 32, RowOK m d p f) (b : Fin 64) (o : Fin 2) :
    (W11 m f d (dr main_v10) (ix2 b o) : EReal) = convArgs m d b o + biasArg m d (ix1 o) := by
  have h : W11 m f d (dr main_v10)
      = concatenate S64x2 0 [⟨S38x2, W10 m f d (dr main_v2)⟩, ⟨S26x2, W10 m f d (dr main_v9)⟩] concatenates_S38x2_S26x2_S64x2_d0 := binary_result _ _ _ _ _ _ _ _
  rw [h]
  by_cases hb : b.val < 38
  · refine Eq.trans (concatenate_pair_apply_left (t := S64x2) (s₁ := S38x2) (s₂ := S26x2) 0 _ _ concatenates_S38x2_S26x2_S64x2_d0 _ rfl
      (ix2 ⟨b.val, hb⟩ o) ?_) (first_part m f d ⟨b.val, hb⟩ o)
    intro a; match a with
    | ⟨0, _⟩ => rfl
    | ⟨1, _⟩ => rfl
  · refine Eq.trans (concatenate_pair_apply_right (t := S64x2) (s₁ := S38x2) (s₂ := S26x2) 0 _ _ concatenates_S38x2_S26x2_S64x2_d0 _ rfl rfl
      (ix2 ⟨b.val - 38, by omega⟩ o) ?_ ?_) ((second_part m f d hf ⟨b.val - 38, by omega⟩ o).trans ?_)
    · intro a ha; match a with
      | ⟨0, _⟩ => exact absurd rfl ha
      | ⟨1, _⟩ => rfl
    · show b.val - 38 + 38 = b.val; omega
    · rw [show (⟨38 + (⟨b.val - 38, by omega⟩ : Fin 26).val, by show 38 + (b.val - 38) < 64; omega⟩ : Fin 64) = b from
        Fin.ext (by show 38 + (b.val - 38) = b.val; omega)]

end Cert.Conv

end
-- ==== Proof.lean ====
/- The claims, put together: each program's run (its frame), and the two kernels' identity of text. -/
module

public import proofs.«01_k».proof.Defs
public import proofs.«01_k».proof.Proof.Ends
public import proofs.«01_k».proof.Proof.Ideal.Ends
public import proofs.«01_k».proof.Proof.Value.Reference
public import proofs.«01_k».proof.Proof.Value.Result
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The kernel over the machine's words runs to its end, keeps its arguments and leaves every semaphore at zero. -/
theorem frame_kernel : Cert.quiescent_Kernel := fun m ρ _ =>
  (θ_run _ _ _).mono (fun _ h => ⟨fun c => (h.1 c).2, h.2⟩) (Cert.Kernel.Tile.run_ends (F := Bits) m ρ)

/-- The same of the kernel over the extended reals. -/
theorem frame_ideal : Cert.quiescent_KernelIdeal := fun m ρ _ =>
  (θ_run _ _ _).mono (fun _ h => ⟨fun c => (h.1 c).2, h.2⟩) (Cert.KernelIdeal.Tile.run_ends (F := Ideal) m ρ)

/-- The same of the reference, which declares no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Over the extended reals the kernel and the reference, run on the same arguments, end with the same result: every entry is the whole sum plus the
    bias. -/
theorem algebraic : Cert.algebraic_KernelIdeal_ReferenceIdeal := fun m g m' g' _ hag => by
  refine ⟨fun c => Cert.ReferenceIdeal.Read.val_main_v10 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run _ _ _).mono (fun r h c => ⟨?_, (h.1 c).2⟩) (Cert.KernelIdeal.Tile.run_ends (F := Ideal) m g)
    obtain ⟨f, hf, hv⟩ := (h.1 c).1
    refine hv.trans (funext fun i => ?_)
    obtain ⟨b, o, rfl⟩ : ∃ (b : Fin 64) (o : Fin 2), i = ValueIdx.ix2 b o :=
      ⟨i 0, i 1, funext fun a => by match a with | ⟨0, _⟩ => rfl | ⟨1, _⟩ => rfl⟩
    exact (Cert.Conv.result_value m f c hf b o).trans (Cert.Conv.ref_value _ _ _ _ b o).symm
  · refine (θ_run _ _ _).mono (fun r h c => ⟨?_, (h c).2⟩) (Cert.ReferenceIdeal.Value.run (F := Ideal) m' g')
    refine ((h c).1.trans (Cert.ReferenceIdeal.Read.val_main_v10_eq _ _ _ _)).trans ?_
    rw [(hag c).1, (hag c).2.1, (hag c).2.2.1, (hag c).2.2.2]

theorem claim : Cert.Claim := ⟨Cert.Kernel.Gen.facts, Cert.KernelIdeal.Gen.facts, Cert.ReferenceIdeal.Gen.facts,
  frame_kernel, frame_ideal, frame_reference, trivial, algebraic⟩

end Cert.Proof

end
